-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  IdealRules.sign_bit.Statement Cert.KernelIdeal.S64x512 .f32
  ∧ IdealRules.sign_bit.Statement Cert.KernelIdeal.S2048x512 .f32

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v238) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x512 : Shape := ⟨2, ![64, 512]⟩
abbrev S2048x512 : Shape := ⟨2, ![2048, 512]⟩
abbrev S_ : Shape := ⟨0, ![]⟩
abbrev S512x512 : Shape := ⟨2, ![512, 512]⟩
abbrev S512 : Shape := ⟨1, ![512]⟩
abbrev S64x3 : Shape := ⟨2, ![64, 3]⟩
abbrev S64 : Shape := ⟨1, ![64]⟩
abbrev S1x64 : Shape := ⟨2, ![1, 64]⟩
abbrev S1 : Shape := ⟨1, ![1]⟩

class Facts : Prop where
  bcast_S_S512 : S_.BroadcastsInDim S512 (![] : Fin 0 → Fin S512.rank)
  bcast_S_S512x512 : S_.BroadcastsInDim S512x512 (![] : Fin 0 → Fin S512x512.rank)

variable [Facts]

def fn_part1 {F : FTy → Type} [FloatOps F] (main_arg13 : FVec F S512x512 .f32) (main_arg14 : FVec F S512 .f32) (main_v2 : IVec S512 1) (main_v5 : IVec S512 1) (main_v8 : IVec S512x512 1) (main_v11 : IVec S512 1) (main_v14 : IVec S512 1) (main_v17 : IVec S512 1) : IVec S512 1 × IVec S512 1 × IVec S512x512 1 × IVec S512 1 × IVec S512 1 × IVec S512 1 × IVec S512x512 1 × IVec S512 1 :=
  let main_v18 : FVec F S512x512 .f32 := Host.absf main_arg13
  let main_cst_5 : FVec F S_ .f32 := constant S_ .f32 0x7F800000#32
  let main_v19 : FVec F S512x512 .f32 := broadcastInDim S512x512 ![] bcast_S_S512x512 main_cst_5
  let main_v20 : IVec S512x512 1 := cmpf .olt main_v18 main_v19
  let main_v21 : FVec F S512 .f32 := Host.absf main_arg14
  let main_cst_6 : FVec F S_ .f32 := constant S_ .f32 0x7F800000#32
  let main_v22 : FVec F S512 .f32 := broadcastInDim S512 ![] bcast_S_S512 main_cst_6
  let main_v23 : IVec S512 1 := cmpf .olt main_v21 main_v22
  (main_v2, main_v5, main_v8, main_v11, main_v14, main_v17, main_v20, main_v23)

def fn {F : FTy → Type} [FloatOps F] (main_arg0 : FVec F S64x512 .f32) (main_arg1 : FVec F S2048x512 .f32) (main_arg2 : FVec F S_ .f32) (main_arg3 : FVec F S512x512 .f32) (main_arg4 : FVec F S512 .f32) (main_arg5 : FVec F S512 .f32) (main_arg6 : FVec F S512 .f32) (main_arg7 : FVec F S512x512 .f32) (main_arg8 : FVec F S512 .f32) (main_arg9 : FVec F S512x512 .f32) (main_arg10 : FVec F S512 .f32) (main_arg11 : FVec F S512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_arg19 : FVec F S64x3 .f32) (main_arg20 : FVec F S64 .f32) (main_arg21 : FVec F S1x64 .f32) (main_arg22 : FVec F S1 .f32) : IVec S512 1 × IVec S512 1 × IVec S512x512 1 × IVec S512 1 × IVec S512 1 × IVec S512 1 × IVec S512x512 1 × IVec S512 1 :=
  let main_v0 : FVec F S512 .f32 := Host.absf main_arg5
  let main_cst : FVec F S_ .f32 := constant S_ .f32 0x7F800000#32
  let main_v1 : FVec F S512 .f32 := broadcastInDim S512 ![] bcast_S_S512 main_cst
  let main_v2 : IVec S512 1 := cmpf .olt main_v0 main_v1
  let main_v3 : FVec F S512 .f32 := Host.absf main_arg6
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  let main_v6 : FVec F S512x512 .f32 := Host.absf main_arg7
  let main_cst_1 : FVec F S_ .f32 := constant S_ .f32 0x7F800000#32
  let main_v7 : FVec F S512x512 .f32 := broadcastInDim S512x512 ![] bcast_S_S512x512 main_cst_1
  let main_v8 : IVec S512x512 1 := cmpf .olt main_v6 main_v7
  let main_v9 : FVec F S512 .f32 := Host.absf main_arg8
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S512 .f32 := Host.absf main_arg11
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S512 .f32 := Host.absf main_arg12
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg13 main_arg14 main_v2 main_v5 main_v8 main_v11 main_v14 main_v17
-- ==== Kernel.lean ====
abbrev S64x512 : Shape := ⟨2, ![64, 512]⟩
abbrev S2048x512 : Shape := ⟨2, ![2048, 512]⟩
abbrev S_ : Shape := ⟨0, ![]⟩
abbrev S512x512 : Shape := ⟨2, ![512, 512]⟩
abbrev S512 : Shape := ⟨1, ![512]⟩
abbrev S64x3 : Shape := ⟨2, ![64, 3]⟩
abbrev S64 : Shape := ⟨1, ![64]⟩
abbrev S1x64 : Shape := ⟨2, ![1, 64]⟩
abbrev S1 : Shape := ⟨1, ![1]⟩
abbrev S1x1 : Shape := ⟨2, ![1, 1]⟩
abbrev S1x512 : Shape := ⟨2, ![1, 512]⟩
abbrev S64x2048 : Shape := ⟨2, ![64, 2048]⟩
abbrev S64x1 : Shape := ⟨2, ![64, 1]⟩
abbrev S2048 : Shape := ⟨1, ![2048]⟩
abbrev S2048x1 : Shape := ⟨2, ![2048, 1]⟩
abbrev S512x2048 : Shape := ⟨2, ![512, 2048]⟩
abbrev S1x2048 : Shape := ⟨2, ![1, 2048]⟩
abbrev S64x64 : Shape := ⟨2, ![64, 64]⟩
abbrev S2048x64 : Shape := ⟨2, ![2048, 64]⟩

abbrev nBuf : Space → Nat
  | .hbm => 44
  | .vmem => 19
  | .smem => 5
  | _ => 0

abbrev bufTy : (tb : Table) → Fin (tcTables nBuf tb) → BufTy
  | .hbm, ⟨0, _⟩ => ⟨S64x512, .f32⟩
  | .hbm, ⟨1, _⟩ => ⟨S2048x512, .f32⟩
  | .hbm, ⟨2, _⟩ => ⟨S_, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S64x3, .f32⟩
  | .hbm, ⟨20, _⟩ => ⟨S64, .f32⟩
  | .hbm, ⟨21, _⟩ => ⟨S1x64, .f32⟩
  | .hbm, ⟨22, _⟩ => ⟨S1, .f32⟩
  | .hbm, ⟨23, _⟩ => ⟨S_, .f32⟩
  | .hbm, ⟨24, _⟩ => ⟨S1x1, .f32⟩
  | .hbm, ⟨25, _⟩ => ⟨S512x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S512x512, .f32⟩
  | .hbm, ⟨30, _⟩ => ⟨S1x512, .f32⟩
  | .hbm, ⟨31, _⟩ => ⟨S512x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S512x512, .f32⟩
  | .hbm, ⟨36, _⟩ => ⟨S1x512, .f32⟩
  | .hbm, ⟨37, _⟩ => ⟨S512x512, .f32⟩
  | .hbm, ⟨38, _⟩ => ⟨S1x512, .f32⟩
  | .hbm, ⟨39, _⟩ => ⟨S512x512, .f32⟩
  | .hbm, ⟨40, _⟩ => ⟨S1x512, .f32⟩
  | .hbm, ⟨41, _⟩ => ⟨S1x64, .f32⟩
  | .hbm, ⟨42, _⟩ => ⟨S1x1, .f32⟩
  | .hbm, ⟨43, _⟩ => ⟨S64x2048, .f32⟩
  | .local _ .vmem, ⟨0, _⟩ => ⟨S64x512, .f32⟩
  | .local _ .vmem, ⟨1, _⟩ => ⟨S2048x512, .f32⟩
  | .local _ .vmem, ⟨2, _⟩ => ⟨S512x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S512x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .f32⟩
  | .local _ .vmem, ⟨13, _⟩ => ⟨S1x512, .f32⟩
  | .local _ .vmem, ⟨14, _⟩ => ⟨S512x512, .f32⟩
  | .local _ .vmem, ⟨15, _⟩ => ⟨S1x512, .f32⟩
  | .local _ .vmem, ⟨16, _⟩ => ⟨S512x512, .f32⟩
  | .local _ .vmem, ⟨17, _⟩ => ⟨S1x512, .f32⟩
  | .local _ .vmem, ⟨18, _⟩ => ⟨S64x2048, .f32⟩
  | .local _ .smem, ⟨0, _⟩ => ⟨S1x1, .f32⟩
  | .local _ .smem, ⟨1, _⟩ => ⟨S64x3, .f32⟩
  | .local _ .smem, ⟨2, _⟩ => ⟨S1x64, .f32⟩
  | .local _ .smem, ⟨3, _⟩ => ⟨S1x64, .f32⟩
  | .local _ .smem, ⟨4, _⟩ => ⟨S1x1, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_v15 : Ref sig .tc := ⟨.hbm, 38, rfl⟩
abbrev main_call0_v16 : Ref sig .tc := ⟨.hbm, 39, rfl⟩
abbrev main_call0_v17 : Ref sig .tc := ⟨.hbm, 40, rfl⟩
abbrev main_call0_v18 : Ref sig .tc := ⟨.hbm, 41, rfl⟩
abbrev main_call0_v19 : Ref sig .tc := ⟨.hbm, 42, rfl⟩
abbrev main_v0 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg17_0 : Ref sig .tc := ⟨.vmem, 16, rfl⟩
abbrev cc0_stg18_0 : Ref sig .tc := ⟨.vmem, 17, rfl⟩
abbrev cc0_stg23_0 : Ref sig .tc := ⟨.vmem, 18, rfl⟩
abbrev cc0_stg2_0 : Ref sig .tc := ⟨.smem, 0, rfl⟩
abbrev cc0_stg19_0 : Ref sig .tc := ⟨.smem, 1, rfl⟩
abbrev cc0_stg20_0 : Ref sig .tc := ⟨.smem, 2, rfl⟩
abbrev cc0_stg21_0 : Ref sig .tc := ⟨.smem, 3, rfl⟩
abbrev cc0_stg22_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [BitOps F]

abbrev grid0 : Pipeline.Grid := .none

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S512x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .smem S64x3 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .smem S1x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .smem S1x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .smem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S64x2048 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== KernelIdeal.lean ====
variable {F : FTy → Type} [FloatOps F]
-- ==== ReferenceIdeal.lean ====
abbrev S64x512 : Shape := ⟨2, ![64, 512]⟩
abbrev S2048x512 : Shape := ⟨2, ![2048, 512]⟩
abbrev S_ : Shape := ⟨0, ![]⟩
abbrev S512x512 : Shape := ⟨2, ![512, 512]⟩
abbrev S512 : Shape := ⟨1, ![512]⟩
abbrev S64x3 : Shape := ⟨2, ![64, 3]⟩
abbrev S64 : Shape := ⟨1, ![64]⟩
abbrev S1x64 : Shape := ⟨2, ![1, 64]⟩
abbrev S1 : Shape := ⟨1, ![1]⟩
abbrev S1x512 : Shape := ⟨2, ![1, 512]⟩
abbrev S64x1 : Shape := ⟨2, ![64, 1]⟩
abbrev S2048 : Shape := ⟨1, ![2048]⟩
abbrev S2048x1 : Shape := ⟨2, ![2048, 1]⟩
abbrev S512x2048 : Shape := ⟨2, ![512, 2048]⟩
abbrev S64x2048 : Shape := ⟨2, ![64, 2048]⟩
abbrev S64x1x512 : Shape := ⟨3, ![64, 1, 512]⟩
abbrev S1x2048x512 : Shape := ⟨3, ![1, 2048, 512]⟩
abbrev S64x2048x512 : Shape := ⟨3, ![64, 2048, 512]⟩
abbrev S64x8x64 : Shape := ⟨3, ![64, 8, 64]⟩
abbrev S2048x8x64 : Shape := ⟨3, ![2048, 8, 64]⟩
abbrev S8x2048x64 : Shape := ⟨3, ![8, 2048, 64]⟩
abbrev S64x8x2048 : Shape := ⟨3, ![64, 8, 2048]⟩
abbrev S64x8 : Shape := ⟨2, ![64, 8]⟩
abbrev S64x8x1 : Shape := ⟨3, ![64, 8, 1]⟩
abbrev S64x2048x1 : Shape := ⟨3, ![64, 2048, 1]⟩
abbrev S64x2048x3 : Shape := ⟨3, ![64, 2048, 3]⟩
abbrev S3x64 : Shape := ⟨2, ![3, 64]⟩
abbrev S64x2048x64 : Shape := ⟨3, ![64, 2048, 64]⟩
abbrev S1x1x64 : Shape := ⟨3, ![1, 1, 64]⟩
abbrev S1x1x1 : Shape := ⟨3, ![1, 1, 1]⟩

abbrev nBuf : Space → Nat
  | .hbm => 323
  | .vmem => 0
  | .smem => 0
  | _ => 0

abbrev hbmTy0_0 (i : Nat) : BufTy := match i % 128 with
  | 0 => ⟨S64x512, .f32⟩
  | 1 => ⟨S2048x512, .f32⟩
  | 2 => ⟨S_, .f32⟩
  | 3 => ⟨S512x512, .f32⟩
  | 4 => ⟨S512, .f32⟩
  | 5 => ⟨S512, .f32⟩
  | 6 => ⟨S512, .f32⟩
  | 7 => ⟨S512x512, .f32⟩
  | 8 => ⟨S512, .f32⟩
  | 9 => ⟨S512x512, .f32⟩
  | 10 => ⟨S512, .f32⟩
  | 11 => ⟨S512, .f32⟩
  | 12 => ⟨S512, .f32⟩
  | 13 => ⟨S512x512, .f32⟩
  | 14 => ⟨S512, .f32⟩
  | 15 => ⟨S512x512, .f32⟩
  | 16 => ⟨S512, .f32⟩
  | 17 => ⟨S512x512, .f32⟩
  | 18 => ⟨S512, .f32⟩
  | 19 => ⟨S64x3, .f32⟩
  | 20 => ⟨S64, .f32⟩
  | 21 => ⟨S1x64, .f32⟩
  | 22 => ⟨S1, .f32⟩
  | 23 => ⟨S512x512, .f32⟩
  | 24 => ⟨S64x512, .f32⟩
  | 25 => ⟨S1x512, .f32⟩
  | 26 => ⟨S64x512, .f32⟩
  | 27 => ⟨S64x512, .f32⟩
  | 28 => ⟨S_, .f32⟩
  | 29 => ⟨S64, .f32⟩
  | 30 => ⟨S64x1, .f32⟩
  | 31 => ⟨S_, .f32⟩
  | 32 => ⟨S64x1, .f32⟩
  | 33 => ⟨S64x1, .f32⟩
  | 34 => ⟨S64x512, .f32⟩
  | 35 => ⟨S64x512, .f32⟩
  | 36 => ⟨S64x512, .f32⟩
  | 37 => ⟨S_, .f32⟩
  | 38 => ⟨S64, .f32⟩
  | 39 => ⟨S64x1, .f32⟩
  | 40 => ⟨S_, .f32⟩
  | 41 => ⟨S64x1, .f32⟩
  | 42 => ⟨S64x1, .f32⟩
  | 43 => ⟨S64x512, .f32⟩
  | 44 => ⟨S64x512, .f32⟩
  | 45 => ⟨S_, .f32⟩
  | 46 => ⟨S64x1, .f32⟩
  | 47 => ⟨S64x1, .f32⟩
  | 48 => ⟨S64x1, .f32⟩
  | 49 => ⟨S64x512, .f32⟩
  | 50 => ⟨S64x512, .f32⟩
  | 51 => ⟨S1x512, .f32⟩
  | 52 => ⟨S64x512, .f32⟩
  | 53 => ⟨S64x512, .f32⟩
  | 54 => ⟨S1x512, .f32⟩
  | 55 => ⟨S64x512, .f32⟩
  | 56 => ⟨S64x512, .f32⟩
  | 57 => ⟨S_, .f32⟩
  | 58 => ⟨S64x512, .f32⟩
  | 59 => ⟨S64x512, .f32⟩
  | 60 => ⟨S_, .f32⟩
  | 61 => ⟨S64x512, .f32⟩
  | 62 => ⟨S64x512, .f32⟩
  | 63 => ⟨S64x512, .f32⟩
  | 64 => ⟨S_, .f32⟩
  | 65 => ⟨S64x512, .f32⟩
  | 66 => ⟨S64x512, .f32⟩
  | 67 => ⟨S_, .f32⟩
  | 68 => ⟨S64x512, .f32⟩
  | 69 => ⟨S64x512, .f32⟩
  | 70 => ⟨S_, .f32⟩
  | 71 => ⟨S64x512, .f32⟩
  | 72 => ⟨S64x512, .f32⟩
  | 73 => ⟨S_, .f32⟩
  | 74 => ⟨S64x512, .f32⟩
  | 75 => ⟨S64x512, .f32⟩
  | 76 => ⟨S64x512, .f32⟩
  | 77 => ⟨S_, .f32⟩
  | 78 => ⟨S64x512, .f32⟩
  | 79 => ⟨S64x512, .f32⟩
  | 80 => ⟨S64x512, .f32⟩
  | 81 => ⟨S64x512, .f32⟩
  | 82 => ⟨S64x512, .f32⟩
  | 83 => ⟨S_, .f32⟩
  | 84 => ⟨S64x512, .f32⟩
  | 85 => ⟨S64x512, .f32⟩
  | 86 => ⟨S64x512, .f32⟩
  | 87 => ⟨S64x512, .f32⟩
  | 88 => ⟨S64x512, .f32⟩
  | 89 => ⟨S_, .f32⟩
  | 90 => ⟨S64x512, .f32⟩
  | 91 => ⟨S64x512, .f32⟩
  | 92 => ⟨S64x512, .f32⟩
  | 93 => ⟨S64x512, .f32⟩
  | 94 => ⟨S64x512, .f32⟩
  | 95 => ⟨S64x512, .f32⟩
  | 96 => ⟨S_, .f32⟩
  | 97 => ⟨S64x512, .f32⟩
  | 98 => ⟨S64x512, .f32⟩
  | 99 => ⟨S64x512, .f32⟩
  | 100 => ⟨S64x512, .f32⟩
  | 101 => ⟨S64x512, .f32⟩
  | 102 => ⟨S64x512, .f32⟩
  | 103 => ⟨S64x512, .f32⟩
  | 104 => ⟨S_, .f32⟩
  | 105 => ⟨S64x512, .f32⟩
  | 106 => ⟨S64x512, .f32⟩
  | 107 => ⟨S_, .f32⟩
  | 108 => ⟨S64x512, .f32⟩
  | 109 => ⟨S64x512, .i1⟩
  | 110 => ⟨S64x512, .f32⟩
  | 111 => ⟨S64x512, .f32⟩
  | 112 => ⟨S_, .f32⟩
  | 113 => ⟨S64x512, .f32⟩
  | 114 => ⟨S64x512, .f32⟩
  | 115 => ⟨S64x512, .f32⟩
  | 116 => ⟨S512x512, .f32⟩
  | 117 => ⟨S64x512, .f32⟩
  | 118 => ⟨S1x512, .f32⟩
  | 119 => ⟨S64x512, .f32⟩
  | 120 => ⟨S64x512, .f32⟩
  | 121 => ⟨S512x512, .f32⟩
  | 122 => ⟨S2048x512, .f32⟩
  | 123 => ⟨S1x512, .f32⟩
  | 124 => ⟨S2048x512, .f32⟩
  | 125 => ⟨S2048x512, .f32⟩
  | 126 => ⟨S_, .f32⟩
  | 127 => ⟨S2048, .f32⟩
  | _ => ⟨S64x512, .f32⟩

abbrev hbmTy0_1 (i : Nat) : BufTy := match i % 128 with
  | 0 => ⟨S2048x1, .f32⟩
  | 1 => ⟨S_, .f32⟩
  | 2 => ⟨S2048x1, .f32⟩
  | 3 => ⟨S2048x1, .f32⟩
  | 4 => ⟨S2048x512, .f32⟩
  | 5 => ⟨S2048x512, .f32⟩
  | 6 => ⟨S2048x512, .f32⟩
  | 7 => ⟨S_, .f32⟩
  | 8 => ⟨S2048, .f32⟩
  | 9 => ⟨S2048x1, .f32⟩
  | 10 => ⟨S_, .f32⟩
  | 11 => ⟨S2048x1, .f32⟩
  | 12 => ⟨S2048x1, .f32⟩
  | 13 => ⟨S2048x512, .f32⟩
  | 14 => ⟨S2048x512, .f32⟩
  | 15 => ⟨S_, .f32⟩
  | 16 => ⟨S2048x1, .f32⟩
  | 17 => ⟨S2048x1, .f32⟩
  | 18 => ⟨S2048x1, .f32⟩
  | 19 => ⟨S2048x512, .f32⟩
  | 20 => ⟨S2048x512, .f32⟩
  | 21 => ⟨S1x512, .f32⟩
  | 22 => ⟨S2048x512, .f32⟩
  | 23 => ⟨S2048x512, .f32⟩
  | 24 => ⟨S1x512, .f32⟩
  | 25 => ⟨S2048x512, .f32⟩
  | 26 => ⟨S2048x512, .f32⟩
  | 27 => ⟨S_, .f32⟩
  | 28 => ⟨S2048x512, .f32⟩
  | 29 => ⟨S2048x512, .f32⟩
  | 30 => ⟨S_, .f32⟩
  | 31 => ⟨S2048x512, .f32⟩
  | 32 => ⟨S2048x512, .f32⟩
  | 33 => ⟨S2048x512, .f32⟩
  | 34 => ⟨S_, .f32⟩
  | 35 => ⟨S2048x512, .f32⟩
  | 36 => ⟨S2048x512, .f32⟩
  | 37 => ⟨S_, .f32⟩
  | 38 => ⟨S2048x512, .f32⟩
  | 39 => ⟨S2048x512, .f32⟩
  | 40 => ⟨S_, .f32⟩
  | 41 => ⟨S2048x512, .f32⟩
  | 42 => ⟨S2048x512, .f32⟩
  | 43 => ⟨S_, .f32⟩
  | 44 => ⟨S2048x512, .f32⟩
  | 45 => ⟨S2048x512, .f32⟩
  | 46 => ⟨S2048x512, .f32⟩
  | 47 => ⟨S_, .f32⟩
  | 48 => ⟨S2048x512, .f32⟩
  | 49 => ⟨S2048x512, .f32⟩
  | 50 => ⟨S2048x512, .f32⟩
  | 51 => ⟨S2048x512, .f32⟩
  | 52 => ⟨S2048x512, .f32⟩
  | 53 => ⟨S_, .f32⟩
  | 54 => ⟨S2048x512, .f32⟩
  | 55 => ⟨S2048x512, .f32⟩
  | 56 => ⟨S2048x512, .f32⟩
  | 57 => ⟨S2048x512, .f32⟩
  | 58 => ⟨S2048x512, .f32⟩
  | 59 => ⟨S_, .f32⟩
  | 60 => ⟨S2048x512, .f32⟩
  | 61 => ⟨S2048x512, .f32⟩
  | 62 => ⟨S2048x512, .f32⟩
  | 63 => ⟨S2048x512, .f32⟩
  | 64 => ⟨S2048x512, .f32⟩
  | 65 => ⟨S2048x512, .f32⟩
  | 66 => ⟨S_, .f32⟩
  | 67 => ⟨S2048x512, .f32⟩
  | 68 => ⟨S2048x512, .f32⟩
  | 69 => ⟨S2048x512, .f32⟩
  | 70 => ⟨S2048x512, .f32⟩
  | 71 => ⟨S2048x512, .f32⟩
  | 72 => ⟨S2048x512, .f32⟩
  | 73 => ⟨S2048x512, .f32⟩
  | 74 => ⟨S_, .f32⟩
  | 75 => ⟨S2048x512, .f32⟩
  | 76 => ⟨S2048x512, .f32⟩
  | 77 => ⟨S_, .f32⟩
  | 78 => ⟨S2048x512, .f32⟩
  | 79 => ⟨S2048x512, .i1⟩
  | 80 => ⟨S2048x512, .f32⟩
  | 81 => ⟨S2048x512, .f32⟩
  | 82 => ⟨S_, .f32⟩
  | 83 => ⟨S2048x512, .f32⟩
  | 84 => ⟨S2048x512, .f32⟩
  | 85 => ⟨S2048x512, .f32⟩
  | 86 => ⟨S512x512, .f32⟩
  | 87 => ⟨S2048x512, .f32⟩
  | 88 => ⟨S1x512, .f32⟩
  | 89 => ⟨S2048x512, .f32⟩
  | 90 => ⟨S2048x512, .f32⟩
  | 91 => ⟨S64x512, .f32⟩
  | 92 => ⟨S_, .f32⟩
  | 93 => ⟨S64, .f32⟩
  | 94 => ⟨S64x1, .f32⟩
  | 95 => ⟨S64x1, .f32⟩
  | 96 => ⟨S_, .f32⟩
  | 97 => ⟨S64x1, .f32⟩
  | 98 => ⟨S64x1, .f32⟩
  | 99 => ⟨S64x512, .f32⟩
  | 100 => ⟨S64x512, .f32⟩
  | 101 => ⟨S2048x512, .f32⟩
  | 102 => ⟨S_, .f32⟩
  | 103 => ⟨S2048, .f32⟩
  | 104 => ⟨S2048x1, .f32⟩
  | 105 => ⟨S2048x1, .f32⟩
  | 106 => ⟨S_, .f32⟩
  | 107 => ⟨S2048x1, .f32⟩
  | 108 => ⟨S2048x1, .f32⟩
  | 109 => ⟨S2048x512, .f32⟩
  | 110 => ⟨S2048x512, .f32⟩
  | 111 => ⟨S512x2048, .f32⟩
  | 112 => ⟨S64x2048, .f32⟩
  | 113 => ⟨S_, .f32⟩
  | 114 => ⟨S64x2048, .f32⟩
  | 115 => ⟨S64x2048, .f32⟩
  | 116 => ⟨S64x1x512, .f32⟩
  | 117 => ⟨S1x2048x512, .f32⟩
  | 118 => ⟨S64x2048x512, .f32⟩
  | 119 => ⟨S64x2048x512, .f32⟩
  | 120 => ⟨S64x2048x512, .f32⟩
  | 121 => ⟨S64x2048x512, .f32⟩
  | 122 => ⟨S_, .f32⟩
  | 123 => ⟨S64x2048, .f32⟩
  | 124 => ⟨S64x2048, .f32⟩
  | 125 => ⟨S_, .f32⟩
  | 126 => ⟨S64x2048, .f32⟩
  | 127 => ⟨S64x2048, .f32⟩
  | _ => ⟨S64x512, .f32⟩

abbrev hbmTy0_2 (i : Nat) : BufTy := match i % 128 with
  | 0 => ⟨S_, .f32⟩
  | 1 => ⟨S64x2048, .f32⟩
  | 2 => ⟨S64x2048, .f32⟩
  | 3 => ⟨S512x512, .f32⟩
  | 4 => ⟨S64x512, .f32⟩
  | 5 => ⟨S1x512, .f32⟩
  | 6 => ⟨S64x512, .f32⟩
  | 7 => ⟨S64x512, .f32⟩
  | 8 => ⟨S512x512, .f32⟩
  | 9 => ⟨S2048x512, .f32⟩
  | 10 => ⟨S1x512, .f32⟩
  | 11 => ⟨S2048x512, .f32⟩
  | 12 => ⟨S2048x512, .f32⟩
  | 13 => ⟨S64x8x64, .f32⟩
  | 14 => ⟨S2048x8x64, .f32⟩
  | 15 => ⟨S8x2048x64, .f32⟩
  | 16 => ⟨S64x8x2048, .f32⟩
  | 17 => ⟨S_, .f32⟩
  | 18 => ⟨S_, .f32⟩
  | 19 => ⟨S_, .f32⟩
  | 20 => ⟨S64x8x2048, .f32⟩
  | 21 => ⟨S64x8x2048, .f32⟩
  | 22 => ⟨S_, .f32⟩
  | 23 => ⟨S64x8, .f32⟩
  | 24 => ⟨S_, .f32⟩
  | 25 => ⟨S64x8, .f32⟩
  | 26 => ⟨S64x8, .f32⟩
  | 27 => ⟨S64x8x1, .f32⟩
  | 28 => ⟨S64x8x2048, .f32⟩
  | 29 => ⟨S64x8x2048, .f32⟩
  | 30 => ⟨S64x8x2048, .f32⟩
  | 31 => ⟨S_, .f32⟩
  | 32 => ⟨S64x8, .f32⟩
  | 33 => ⟨S64x8x1, .f32⟩
  | 34 => ⟨S64x8x2048, .f32⟩
  | 35 => ⟨S64x8x2048, .f32⟩
  | 36 => ⟨S_, .f32⟩
  | 37 => ⟨S64x2048, .f32⟩
  | 38 => ⟨S_, .f32⟩
  | 39 => ⟨S64x2048, .f32⟩
  | 40 => ⟨S64x2048, .f32⟩
  | 41 => ⟨S64x2048x1, .f32⟩
  | 42 => ⟨S64x2048x1, .f32⟩
  | 43 => ⟨S64x2048x1, .f32⟩
  | 44 => ⟨S64x2048x3, .f32⟩
  | 45 => ⟨S3x64, .f32⟩
  | 46 => ⟨S64x2048x64, .f32⟩
  | 47 => ⟨S1x1x64, .f32⟩
  | 48 => ⟨S64x2048x64, .f32⟩
  | 49 => ⟨S64x2048x64, .f32⟩
  | 50 => ⟨S_, .f32⟩
  | 51 => ⟨S64x2048x64, .f32⟩
  | 52 => ⟨S64x2048x64, .f32⟩
  | 53 => ⟨S64x1, .f32⟩
  | 54 => ⟨S64x2048x1, .f32⟩
  | 55 => ⟨S1x1x1, .f32⟩
  | 56 => ⟨S64x2048x1, .f32⟩
  | 57 => ⟨S64x2048x1, .f32⟩
  | 58 => ⟨S64x2048x1, .f32⟩
  | 59 => ⟨S64x2048x1, .f32⟩
  | 60 => ⟨S_, .f32⟩
  | 61 => ⟨S64x2048x1, .f32⟩
  | 62 => ⟨S64x2048x1, .f32⟩
  | 63 => ⟨S_, .f32⟩
  | 64 => ⟨S64x2048x1, .f32⟩
  | 65 => ⟨S64x2048x1, .f32⟩
  | 66 => ⟨S64x2048, .f32⟩
  | _ => ⟨S64x512, .f32⟩

abbrev hbmTy (i : Nat) : BufTy := match i / 128 with
  | 0 => hbmTy0_0 i
  | 1 => hbmTy0_1 i
  | 2 => hbmTy0_2 i
  | _ => ⟨S64x512, .f32⟩

abbrev bufTy : (tb : Table) → Fin (tcTables nBuf tb) → BufTy
  | .hbm, ⟨i, _⟩ => hbmTy i
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_v6 : Ref sig .tc := ⟨.hbm, 30, rfl⟩
abbrev main_cst_0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_v13 : Ref sig .tc := ⟨.hbm, 39, rfl⟩
abbrev main_cst_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_3 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_4 : Ref sig .tc := ⟨.hbm, 57, rfl⟩
abbrev main_v29 : Ref sig .tc := ⟨.hbm, 58, rfl⟩
abbrev main_v30 : Ref sig .tc := ⟨.hbm, 59, rfl⟩
abbrev main_cst_5 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_6 : Ref sig .tc := ⟨.hbm, 64, rfl⟩
abbrev main_v34 : Ref sig .tc := ⟨.hbm, 65, rfl⟩
abbrev main_v35 : Ref sig .tc := ⟨.hbm, 66, rfl⟩
abbrev main_cst_7 : Ref sig .tc := ⟨.hbm, 67, rfl⟩
abbrev main_v36 : Ref sig .tc := ⟨.hbm, 68, rfl⟩
abbrev main_v37 : Ref sig .tc := ⟨.hbm, 69, rfl⟩
abbrev main_cst_8 : Ref sig .tc := ⟨.hbm, 70, rfl⟩
abbrev main_v38 : Ref sig .tc := ⟨.hbm, 71, rfl⟩
abbrev main_v39 : Ref sig .tc := ⟨.hbm, 72, rfl⟩
abbrev main_cst_9 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_10 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_11 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_12 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_13 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_14 : Ref sig .tc := ⟨.hbm, 104, rfl⟩
abbrev main_v66 : Ref sig .tc := ⟨.hbm, 105, rfl⟩
abbrev main_v67 : Ref sig .tc := ⟨.hbm, 106, rfl⟩
abbrev main_cst_15 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_16 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_17 : Ref sig .tc := ⟨.hbm, 126, rfl⟩
abbrev main_v85 : Ref sig .tc := ⟨.hbm, 127, rfl⟩
abbrev main_v86 : Ref sig .tc := ⟨.hbm, 128, rfl⟩
abbrev main_cst_18 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_19 : Ref sig .tc := ⟨.hbm, 135, rfl⟩
abbrev main_v92 : Ref sig .tc := ⟨.hbm, 136, rfl⟩
abbrev main_v93 : Ref sig .tc := ⟨.hbm, 137, rfl⟩
abbrev main_cst_20 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_21 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_22 : Ref sig .tc := ⟨.hbm, 155, rfl⟩
abbrev main_v109 : Ref sig .tc := ⟨.hbm, 156, rfl⟩
abbrev main_v110 : Ref sig .tc := ⟨.hbm, 157, rfl⟩
abbrev main_cst_23 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_24 : Ref sig .tc := ⟨.hbm, 162, rfl⟩
abbrev main_v114 : Ref sig .tc := ⟨.hbm, 163, rfl⟩
abbrev main_v115 : Ref sig .tc := ⟨.hbm, 164, rfl⟩
abbrev main_cst_25 : Ref sig .tc := ⟨.hbm, 165, rfl⟩
abbrev main_v116 : Ref sig .tc := ⟨.hbm, 166, rfl⟩
abbrev main_v117 : Ref sig .tc := ⟨.hbm, 167, rfl⟩
abbrev main_cst_26 : Ref sig .tc := ⟨.hbm, 168, rfl⟩
abbrev main_v118 : Ref sig .tc := ⟨.hbm, 169, rfl⟩
abbrev main_v119 : Ref sig .tc := ⟨.hbm, 170, rfl⟩
abbrev main_cst_27 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_28 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_cst_29 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_cst_30 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_cst_31 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_cst_32 : Ref sig .tc := ⟨.hbm, 202, rfl⟩
abbrev main_v146 : Ref sig .tc := ⟨.hbm, 203, rfl⟩
abbrev main_v147 : Ref sig .tc := ⟨.hbm, 204, rfl⟩
abbrev main_cst_33 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_cst_34 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_call2_v0 : Ref sig .tc := ⟨.hbm, 219, rfl⟩
abbrev main_call2_cst : Ref sig .tc := ⟨.hbm, 220, rfl⟩
abbrev main_call2_v1 : Ref sig .tc := ⟨.hbm, 221, rfl⟩
abbrev main_call2_v2 : Ref sig .tc := ⟨.hbm, 222, rfl⟩
abbrev main_v160 : Ref sig .tc := ⟨.hbm, 223, rfl⟩
abbrev main_cst_35 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_call3_v0 : Ref sig .tc := ⟨.hbm, 229, rfl⟩
abbrev main_call3_cst : Ref sig .tc := ⟨.hbm, 230, rfl⟩
abbrev main_call3_v1 : Ref sig .tc := ⟨.hbm, 231, rfl⟩
abbrev main_call3_v2 : Ref sig .tc := ⟨.hbm, 232, rfl⟩
abbrev main_v165 : Ref sig .tc := ⟨.hbm, 233, rfl⟩
abbrev main_cst_36 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_call4_v0 : Ref sig .tc := ⟨.hbm, 249, rfl⟩
abbrev main_call4_cst : Ref sig .tc := ⟨.hbm, 250, rfl⟩
abbrev main_call4_v1 : Ref sig .tc := ⟨.hbm, 251, rfl⟩
abbrev main_v180 : Ref sig .tc := ⟨.hbm, 252, rfl⟩
abbrev main_cst_37 : Ref sig .tc := ⟨.hbm, 253, rfl⟩
abbrev main_v181 : Ref sig .tc := ⟨.hbm, 254, rfl⟩
abbrev main_v182 : Ref sig .tc := ⟨.hbm, 255, rfl⟩
abbrev main_cst_38 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_cst_39 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_cst_40 : Ref sig .tc := ⟨.hbm, 278, rfl⟩
abbrev main_v203 : Ref sig .tc := ⟨.hbm, 279, rfl⟩
abbrev main_cst_41 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_cst_42 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_cst_43 : Ref sig .tc := ⟨.hbm, 292, rfl⟩
abbrev main_v214 : Ref sig .tc := ⟨.hbm, 293, rfl⟩
abbrev main_cst_44 : Ref sig .tc := ⟨.hbm, 294, rfl⟩
abbrev main_v215 : Ref sig .tc := ⟨.hbm, 295, rfl⟩
abbrev main_v216 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_v223 : Ref sig .tc := ⟨.hbm, 303, rfl⟩
abbrev main_v224 : Ref sig .tc := ⟨.hbm, 304, rfl⟩
abbrev main_v225 : Ref sig .tc := ⟨.hbm, 305, rfl⟩
abbrev main_call5_cst : Ref sig .tc := ⟨.hbm, 306, rfl⟩
abbrev main_call5_v0 : Ref sig .tc := ⟨.hbm, 307, rfl⟩
abbrev main_v226 : Ref sig .tc := ⟨.hbm, 308, rfl⟩
abbrev main_v227 : Ref sig .tc := ⟨.hbm, 309, rfl⟩
abbrev main_v228 : Ref sig .tc := ⟨.hbm, 310, rfl⟩
abbrev main_v229 : Ref sig .tc := ⟨.hbm, 311, rfl⟩
abbrev main_v230 : Ref sig .tc := ⟨.hbm, 312, rfl⟩
abbrev main_v231 : Ref sig .tc := ⟨.hbm, 313, rfl⟩
abbrev main_v232 : Ref sig .tc := ⟨.hbm, 314, rfl⟩
abbrev main_v233 : Ref sig .tc := ⟨.hbm, 315, rfl⟩
abbrev main_cst_45 : Ref sig .tc := ⟨.hbm, 316, rfl⟩
abbrev main_v234 : Ref sig .tc := ⟨.hbm, 317, rfl⟩
abbrev main_v235 : Ref sig .tc := ⟨.hbm, 318, rfl⟩
abbrev main_cst_46 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩

abbrev nD : Nat := 1
abbrev τ : Topo := Topo.v7x

variable {F : FTy → Type} [FloatOps F]
-- ==== Proof.Spec.lean ====
/- The scalar functions both programs compute, row by row, over the extended reals: no arrays, no memory. Where the two
   programs spell a quantity differently there are two definitions, `…K` (the kernel's spelling) and `…R` (the
   reference's). -/
module

public import Idealize.ShloMosaic.Lib.Pointwise

@[expose] public section

noncomputable section

namespace Cert.Spec

open Idealize.ShloMosaic
open scoped BigOperators

/-- The value of a binary32 word. -/
abbrev w32 (b : BitVec 32) : EReal := Ideal.ofBits .f32 b

/-- A dense layer: `x · W + b` at one output coordinate, `W` indexed by input and output. -/
def dense {n p : ℕ} (x : Fin n → EReal) (W : Fin n → Fin p → EReal) (b : Fin p → EReal) (e : Fin p) : EReal :=
  (∑ d, x d * W d e) + b e

/-- The mean of a row of 512. -/
def mean (h : Fin 512 → EReal) : EReal := Ideal.div (∑ k, h k) (w32 0x44000000#32)

/-- The variance of a row of 512 plus the layer norm's 1e-5. -/
def varEps (h : Fin 512 → EReal) : EReal :=
  Ideal.div (∑ k, (h k - mean h) * (h k - mean h)) (w32 0x44000000#32) + w32 0x3727C5AC#32

/-- The kernel's layer norm: times the reciprocal root. -/
def lnK (h g be : Fin 512 → EReal) (k : Fin 512) : EReal := (h k - mean h) * Ideal.rsqrt (varEps h) * g k + be k

/-- The reference's layer norm: divided by the root. -/
def lnR (h g be : Fin 512 → EReal) (k : Fin 512) : EReal :=
  Ideal.div (h k - mean h) (Ideal.sqrt (varEps h)) * g k + be k

/-- `1 / (1 + p |z|)`, the error function's auxiliary variable. -/
def erfT (z : EReal) : EReal :=
  Ideal.div 1 (1 + w32 0x3EA7BA05#32 * max z (-z))

/-- The kernel's error function: Horner's polynomial, the sign as a factor. -/
def erfK (z : EReal) : EReal :=
  (if 0 < max z (-z) then (if z < 0 then w32 0xBF800000#32 else 1) else z)
    * (1 - (((((w32 0x3F87DC22#32 * erfT z + w32 0xBFBA00E3#32) * erfT z + w32 0x3FB5F0E3#32) * erfT z
        + w32 0xBE91A98E#32) * erfT z + w32 0x3E827906#32) * erfT z) * Ideal.exp ((0 - max z (-z)) * max z (-z)))

/-- The reference's error function at the absolute value: the polynomial by powers. -/
def erfAbs (z : EReal) : EReal :=
  1 - (w32 0x3E827906#32 * erfT z - w32 0x3E91A98E#32 * (erfT z * erfT z) + w32 0x3FB5F0E3#32 * (erfT z * erfT z * erfT z)
      - w32 0x3FBA00E3#32 * (erfT z * erfT z * (erfT z * erfT z))
      + w32 0x3F87DC22#32 * (erfT z * (erfT z * erfT z * (erfT z * erfT z)))) * Ideal.exp (-(z * z))

/-- The reference's error function: extended oddly. -/
def erfR (z : EReal) : EReal := if 0 ≤ z then erfAbs z else -erfAbs z

/-- GELU over an error function. -/
def gelu (erf : EReal → EReal) (x : EReal) : EReal :=
  w32 0x3F000000#32 * x * (1 + erf (x * w32 0x3F3504F3#32))

/-- A projection of one row: dense, layer norm, GELU, dense. -/
def proj (ln : (Fin 512 → EReal) → (Fin 512 → EReal) → (Fin 512 → EReal) → Fin 512 → EReal) (erf : EReal → EReal)
    (x : Fin 512 → EReal) (W1 : Fin 512 → Fin 512 → EReal) (b1 g be : Fin 512 → EReal)
    (W2 : Fin 512 → Fin 512 → EReal) (b2 : Fin 512 → EReal) : Fin 512 → EReal :=
  dense (fun k => gelu erf (ln (dense x W1 b1) g be k)) W2 b2

/-- The sum of products of two rows. -/
def dot {n : ℕ} (u v : Fin n → EReal) : EReal := ∑ d, u d * v d

/-- A row's norm, at least 1e-12. -/
def norm12 (u : Fin 512 → EReal) : EReal := max (Ideal.sqrt (dot u u)) (w32 0x2B8CBCCC#32)

/-- The kernel's cosine similarity, the temperature folded into the first reciprocal. -/
def cosK (q k : Fin 512 → EReal) (t : EReal) : EReal :=
  dot q k * (Ideal.div 1 (norm12 q) * t) * Ideal.div 1 (norm12 k)

/-- The reference's cosine similarity: normalized rows, then the temperature. -/
def cosR (q k : Fin 512 → EReal) (t : EReal) : EReal :=
  (∑ d, Ideal.div (q d) (norm12 q) * Ideal.div (k d) (norm12 k)) * t

/-- The kernel's similarity by distance, the squared distance expanded. -/
def eucK (q k : Fin 512 → EReal) : EReal :=
  Ideal.div 1 (1 + Ideal.sqrt (max (dot q q + dot k k - w32 0x40000000#32 * dot q k) 0))

/-- The reference's similarity by distance. -/
def eucR (q k : Fin 512 → EReal) : EReal :=
  Ideal.div 1 (1 + Ideal.sqrt (∑ d, (q d - k d) * (q d - k d)))

/-- Coordinate `d` of head `h`. -/
def hd (h : Fin 8) (d : Fin 64) : Fin 512 := ⟨h.val * 64 + d.val, by omega⟩

/-- One head's product of two rows. -/
def headDot (A B : Fin 512 → EReal) (h : Fin 8) : EReal := ∑ d : Fin 64, A (hd h d) * B (hd h d)

/-- A softmax over `n` scores, each shifted by their maximum. -/
def soft {n : ℕ} (s : Fin n → EReal) (j : Fin n) : EReal :=
  Ideal.div (Ideal.exp (s j - Finset.univ.fold max (w32 0xFF800000#32) s)) (∑ j', Ideal.exp (s j' - Finset.univ.fold max (w32 0xFF800000#32) s))

/-- The kernel's attention weight, the heads' mean: scores times 1/8, eight terms added in turn, times 1/8. -/
def attK (A : Fin 512 → EReal) (B : Fin 2048 → Fin 512 → EReal) (j : Fin 2048) : EReal :=
  (∑ h : Fin 8, soft (fun j' => headDot A (B j') h * w32 0x3E000000#32) j) * w32 0x3E000000#32

/-- The reference's attention weight: scores over the root of 64, the sum over the heads divided by 8. -/
def attR (A : Fin 512 → EReal) (B : Fin 2048 → Fin 512 → EReal) (j : Fin 2048) : EReal :=
  Ideal.div (∑ h : Fin 8, soft (fun j' => Ideal.div (headDot (B j') A h) (Ideal.sqrt (w32 0x42800000#32))) j)
    (w32 0x41000000#32)

/-- The fusion network: 64 hidden units over the three similarities, then a sigmoid. -/
def fuse (c e l : EReal) (w : Fin 64 → Fin 3 → EReal) (b v : Fin 64 → EReal) (b2 : EReal) : EReal :=
  Ideal.div 1 (1 + Ideal.exp (-((∑ j, max (c * w j 0 + e * w j 1 + l * w j 2 + b j) 0 * v j) + b2)))

/-- The retriever's answer for query `i` and candidate `j`, over the layer norm, the error function and the three
    similarities in one of the two spellings. Weights are indexed by input and output. -/
def answer (ln : (Fin 512 → EReal) → (Fin 512 → EReal) → (Fin 512 → EReal) → Fin 512 → EReal) (erf : EReal → EReal)
    (cosine : (Fin 512 → EReal) → (Fin 512 → EReal) → EReal → EReal)
    (euclid : (Fin 512 → EReal) → (Fin 512 → EReal) → EReal)
    (attend : (Fin 512 → EReal) → (Fin 2048 → Fin 512 → EReal) → Fin 2048 → EReal)
    (x : Fin 64 → Fin 512 → EReal) (y : Fin 2048 → Fin 512 → EReal) (T : EReal)
    (W1 : Fin 512 → Fin 512 → EReal) (b1 g be : Fin 512 → EReal) (W2 : Fin 512 → Fin 512 → EReal) (b2 : Fin 512 → EReal)
    (V1 : Fin 512 → Fin 512 → EReal) (c1 h ce : Fin 512 → EReal) (V2 : Fin 512 → Fin 512 → EReal) (c2 : Fin 512 → EReal)
    (Wq : Fin 512 → Fin 512 → EReal) (bq : Fin 512 → EReal) (Wk : Fin 512 → Fin 512 → EReal) (bk : Fin 512 → EReal)
    (w : Fin 64 → Fin 3 → EReal) (b v : Fin 64 → EReal) (d : EReal) (i : Fin 64) (j : Fin 2048) : EReal :=
  let Q := proj ln erf (x i) W1 b1 g be W2 b2
  let K := fun j' => proj ln erf (y j') V1 c1 h ce V2 c2
  fuse (cosine Q (K j) (Ideal.exp T)) (euclid Q (K j)) (attend (dense Q Wq bq) (fun j' => dense (K j') Wk bk) j) w b v d

end Cert.Spec

end
-- ==== Proof.KProj.lean ====
/- What the kernel's projections hold at an index: each row is `Spec.proj` of the input row, in the kernel's spelling. -/
module

public import proofs.«01_k».proof.Proof.Gen.KernelIdeal.Skeleton
public import proofs.«01_k».proof.Proof.Spec

@[expose] public section

set_option maxRecDepth 16384

noncomputable section

namespace Cert.Proof.KProj

open Cert.KernelIdeal Cert.KernelIdeal.Gen Idealize.ShloMosaic Idealize.ShloMosaic.TcCoe
open Cert.Spec

/-- The query side's layer norm. -/
theorem pay3_at (x : FVec Ideal S64x512 .f32) (W : FVec Ideal S512x512 .f32) (b g be : FVec Ideal S1x512 .f32)
    (i : Fin 64) (k : Fin 512) :
    k0_pay3 (F := Ideal) x W b g be (ix2 i k)
      = lnK (dense (fun d => x (ix2 i d)) (fun d e => W (ix2 d e)) (fun e => b (ix2 0 e))) (fun e => g (ix2 0 e))
          (fun e => be (ix2 0 e)) k := by
  pointwise [k0_pay3]
  rfl

/-- The query side's GELU and second product. -/
theorem pay5_at (W : FVec Ideal S512x512 .f32) (x : FVec Ideal S64x512 .f32) (i : Fin 64) (k : Fin 512) :
    k0_pay5 (F := Ideal) W x k0_pay4 (ix2 i k) = ∑ d : Fin 512, gelu erfK (x (ix2 i d)) * W (ix2 d k) := by
  pointwise [k0_pay5, k0_pay4]
  rfl

/-- The key side's layer norm. -/
theorem pay10_at (x : FVec Ideal S2048x512 .f32) (W : FVec Ideal S512x512 .f32) (b g be : FVec Ideal S1x512 .f32)
    (i : Fin 2048) (k : Fin 512) :
    k0_pay10 (F := Ideal) x W b g be (ix2 i k)
      = lnK (dense (fun d => x (ix2 i d)) (fun d e => W (ix2 d e)) (fun e => b (ix2 0 e))) (fun e => g (ix2 0 e))
          (fun e => be (ix2 0 e)) k := by
  pointwise [k0_pay10]
  rfl

/-- The key side's GELU and second product. -/
theorem pay11_at (W : FVec Ideal S512x512 .f32) (x : FVec Ideal S2048x512 .f32) (i : Fin 2048) (k : Fin 512) :
    k0_pay11 (F := Ideal) W x (Scalar.ofBits (F := Ideal) .f32 0x3F000000#32) (ix2 i k)
      = ∑ d : Fin 512, gelu erfK (x (ix2 i d)) * W (ix2 d k) := by
  pointwise [k0_pay11]
  rfl

/-- The second weight is loaded as it stands. -/
theorem pay8_at (W : FVec Ideal S512x512 .f32) (d k : Fin 512) : k0_pay8 (F := Ideal) W (ix2 d k) = W (ix2 d k) := by
  pointwise [k0_pay8]

/-- A row of an array by its second coordinate. -/
abbrev row {n p : ℕ} (x : FVec Ideal ⟨2, ![n, p]⟩ .f32) (i : Fin n) : Fin p → EReal := fun d => x (ix2 i d)

/-- An array by its two coordinates. -/
abbrev mat {n p : ℕ} (x : FVec Ideal ⟨2, ![n, p]⟩ .f32) : Fin n → Fin p → EReal := fun a b => x (ix2 a b)

/-- A projected query row. -/
theorem qp_at (x : FVec Ideal S64x512 .f32) (W1 : FVec Ideal S512x512 .f32) (b1 g be : FVec Ideal S1x512 .f32)
    (W2 : FVec Ideal S512x512 .f32) (b2 : FVec Ideal S1x512 .f32) (i : Fin 64) (k : Fin 512) :
    k0_pay7 (F := Ideal) (k0_pay5 (k0_pay1 W2) (k0_pay3 x W1 b1 g be) k0_pay4) (k0_pay6 (k0_pay2 b2)) (ix2 i k)
      = proj lnK erfK (row x i) (mat W1) (row b1 0) (row g 0) (row be 0) (mat W2) (row b2 0) k := by
  pointwise [k0_pay7, k0_pay6, k0_pay2, k0_pay1, pay5_at, pay3_at]
  rfl

/-- A projected candidate row. -/
theorem kp_at (x : FVec Ideal S2048x512 .f32) (W1 : FVec Ideal S512x512 .f32) (b1 g be : FVec Ideal S1x512 .f32)
    (W2 : FVec Ideal S512x512 .f32) (b2 : FVec Ideal S1x512 .f32) (i : Fin 2048) (k : Fin 512) :
    k0_pay12 (F := Ideal) (k0_pay9 b2)
        (k0_pay11 (k0_pay8 W2) (k0_pay10 x W1 b1 g be) (FloatOps.ofBits (F := Ideal) .f32 0x3F000000#32)) (ix2 i k)
      = proj lnK erfK (row x i) (mat W1) (row b1 0) (row g 0) (row be 0) (mat W2) (row b2 0) k := by
  pointwise [k0_pay12, k0_pay9]
  rw [show (Ideal.ofBits FTy.f32 1056964608#32) = (Scalar.ofBits (F := Ideal) .f32 0x3F000000#32) from rfl, pay11_at]
  simp only [pay10_at, pay8_at]
  rfl

end Cert.Proof.KProj

end
-- ==== Proof.KPair.lean ====
/- What the kernel's three similarities hold at a pair of a query and a candidate, over the projected rows. -/
module

public import proofs.«01_k».proof.Proof.Gen.KernelIdeal.Skeleton
public import proofs.«01_k».proof.Proof.Spec

@[expose] public section

set_option maxRecDepth 16384

noncomputable section

namespace Cert.Proof.KPair

open Cert.KernelIdeal Cert.KernelIdeal.Gen Idealize.ShloMosaic Idealize.ShloMosaic.TcCoe
open Cert.Spec

/-- The cosine similarity. -/
theorem pay16_at (q : FVec Ideal S64x512 .f32) (b : FVec Ideal S1x512 .f32) (k0 : FVec Ideal S2048x512 .f32)
    (t : EReal) (i : Fin 64) (j : Fin 2048) :
    k0_pay16 (F := Ideal) q b k0 t (ix2 i j)
      = cosK (fun d => q (ix2 i d)) (fun d => k0_pay12 b k0 (ix2 j d)) t := by
  pointwise [k0_pay16, k0_pay13, k0_pay14, k0_pay15]
  rfl

/-- The similarity by distance. -/
theorem pay17_at (q : FVec Ideal S64x512 .f32) (b : FVec Ideal S1x512 .f32) (k0 : FVec Ideal S2048x512 .f32)
    (i : Fin 64) (j : Fin 2048) :
    k0_pay17 (F := Ideal) q b k0 (ix2 i j)
      = eucK (fun d => q (ix2 i d)) (fun d => k0_pay12 b k0 (ix2 j d)) := by
  pointwise [k0_pay17, k0_pay13, k0_pay14, k0_pay15]
  rfl

/-- The attention's query rows. -/
theorem pay19_at (q : FVec Ideal S64x512 .f32) (W : FVec Ideal S512x512 .f32) (b : FVec Ideal S1x512 .f32)
    (i : Fin 64) (e : Fin 512) :
    k0_pay19 (F := Ideal) q (k0_pay18 W) (constant S64x512 .f32 0x00000000#32) b (ix2 i e)
      = dense (fun d => q (ix2 i d)) (fun d e => W (ix2 d e)) (fun e => b (ix2 0 e)) e := by
  pointwise [k0_pay19, k0_pay18]
  rfl

/-- The attention's key rows. -/
theorem pay20_at (k : FVec Ideal S2048x512 .f32) (W : FVec Ideal S512x512 .f32) (b : FVec Ideal S1x512 .f32)
    (j : Fin 2048) (e : Fin 512) :
    k0_pay20 (F := Ideal) k W b (ix2 j e)
      = dense (fun d => k (ix2 j d)) (fun d e => W (ix2 d e)) (fun e => b (ix2 0 e)) e := by
  pointwise [k0_pay20]
  rfl

/-- Head `h`'s softmax for query row `i`, at candidate `j`. -/
def headK (A : FVec Ideal S64x512 .f32) (B : FVec Ideal S2048x512 .f32) (i : Fin 64) (j : Fin 2048) (h : Fin 8) : EReal :=
  soft (fun j' => headDot (fun d => A (ix2 i d)) (fun d => B (ix2 j' d)) h * w32 0x3E000000#32) j

/-- The heads' mean: the eight softmaxes added in turn, times an eighth, are `attK`. -/
theorem heads_at (A : FVec Ideal S64x512 .f32) (B : FVec Ideal S2048x512 .f32) (q : FVec Ideal S64x512 .f32)
    (k : FVec Ideal S2048x512 .f32) (W : FVec Ideal S512x512 .f32) (z : FVec Ideal S64x512 .f32)
    (b : FVec Ideal S1x512 .f32) (W' : FVec Ideal S512x512 .f32) (b' : FVec Ideal S1x512 .f32)
    (hA : k0_pay19 q W z b = A) (hB : k0_pay20 k W' b' = B) (i : Fin 64) (j : Fin 2048) :
    k0_pay27 (F := Ideal) (k0_pay25 A B (k0_pay23 A B (k0_pay21 q k W z b W' b') (k0_pay22 q k W z b W' b')) (k0_pay24 A B))
        (k0_pay26 A B) (ix2 i j)
      = attK (fun d => A (ix2 i d)) (fun j' d => B (ix2 j' d)) j := by
  pointwise [k0_pay27, k0_pay26, k0_pay25, k0_pay24, k0_pay23, k0_pay22, k0_pay21]
  rw [hA, hB]
  show (headK A B i j 0 + headK A B i j 1 + headK A B i j 2 + headK A B i j 3 + headK A B i j 4 + headK A B i j 5
      + headK A B i j 6 + headK A B i j 7) * w32 0x3E000000#32 = (∑ h : Fin 8, headK A B i j h) * w32 0x3E000000#32
  rw [Fin.sum_univ_eight]

end Cert.Proof.KPair

end
-- ==== Proof.KOut.lean ====
/- What one run of the kernel's body leaves in its output, entry by entry, over the blocks it is handed: the fusion of the
   three similarities of the projected rows. -/
module

public import proofs.«01_k».proof.Proof.Gen.KernelIdeal.Value
public import proofs.«01_k».proof.Proof.KProj
public import proofs.«01_k».proof.Proof.KPair
public import Idealize.ShloMosaic.Lib.Pipeline.ValueKit

@[expose] public section

set_option maxRecDepth 16384

noncomputable section

namespace Cert.Proof.KOut

open Cert.KernelIdeal Cert.KernelIdeal.Gen Idealize.ShloMosaic Idealize.ShloMosaic.TcCoe
open Cert.Spec Cert.Proof.KProj Cert.Proof.KPair

/-- `f 0 + f 1 + … + f n`, added in turn. -/
def upto (f : ℕ → EReal) : ℕ → EReal
  | 0 => f 0
  | n + 1 => upto f n + f (n + 1)

/-- A sum over 64 is its terms added in turn. -/
theorem sum_eq_upto (g : Fin 64 → EReal) : ∑ j, g j = upto (fun k => g ⟨k % 64, Nat.mod_lt _ (by norm_num)⟩) 63 := by
  have h : ∀ (f : ℕ → EReal) (n : ℕ), ∑ k ∈ Finset.range (n + 1), f k = upto f n := fun f n => by
    induction n with
    | zero => simp [upto]
    | succ n ih => rw [Finset.sum_range_succ, ih, upto]
  rw [← h, ← Fin.sum_univ_eq_sum_range]
  exact Finset.sum_congr rfl fun j _ => congrArg g (Fin.ext (Nat.mod_eq_of_lt j.isLt).symm)

/-- A projected row over the arrays the kernel is handed. -/
abbrev prow {n : ℕ} (x : FVec Ideal ⟨2, ![n, 512]⟩ .f32) (W1 : FVec Ideal S512x512 .f32) (b1 g be : FVec Ideal S1x512 .f32)
    (W2 : FVec Ideal S512x512 .f32) (b2 : FVec Ideal S1x512 .f32) (i : Fin n) : Fin 512 → EReal :=
  proj lnK erfK (row x i) (mat W1) (row b1 0) (row g 0) (row be 0) (mat W2) (row b2 0)

set_option maxHeartbeats 4000000 in
/-- The output at `(i, j)`: the fusion of the cosine, the distance and the attention of query `i` and candidate `j`. -/
theorem out_at (c : Dev nD)
    (a0 : Memref sig .tc .vmem S64x512 .f32) (h0 : a0.IsWhole)
    (a1 : Memref sig .tc .vmem S2048x512 .f32) (h1 : a1.IsWhole)
    (a2 : Memref sig .tc .smem S1x1 .f32) (h2 : a2.IsWhole)
    (a3 : Memref sig .tc .vmem S512x512 .f32) (h3 : a3.IsWhole)
    (a4 : Memref sig .tc .vmem S1x512 .f32) (h4 : a4.IsWhole)
    (a5 : Memref sig .tc .vmem S1x512 .f32) (h5 : a5.IsWhole)
    (a6 : Memref sig .tc .vmem S1x512 .f32) (h6 : a6.IsWhole)
    (a7 : Memref sig .tc .vmem S512x512 .f32) (h7 : a7.IsWhole)
    (a8 : Memref sig .tc .vmem S1x512 .f32) (h8 : a8.IsWhole)
    (a9 : Memref sig .tc .vmem S512x512 .f32) (h9 : a9.IsWhole)
    (a10 : Memref sig .tc .vmem S1x512 .f32) (h10 : a10.IsWhole)
    (a11 : Memref sig .tc .vmem S1x512 .f32) (h11 : a11.IsWhole)
    (a12 : Memref sig .tc .vmem S1x512 .f32) (h12 : a12.IsWhole)
    (a13 : Memref sig .tc .vmem S512x512 .f32) (h13 : a13.IsWhole)
    (a14 : Memref sig .tc .vmem S1x512 .f32) (h14 : a14.IsWhole)
    (a15 : Memref sig .tc .vmem S512x512 .f32) (h15 : a15.IsWhole)
    (a16 : Memref sig .tc .vmem S1x512 .f32) (h16 : a16.IsWhole)
    (a17 : Memref sig .tc .vmem S512x512 .f32) (h17 : a17.IsWhole)
    (a18 : Memref sig .tc .vmem S1x512 .f32) (h18 : a18.IsWhole)
    (a19 : Memref sig .tc .smem S64x3 .f32) (h19 : a19.IsWhole)
    (a20 : Memref sig .tc .smem S1x64 .f32) (h20 : a20.IsWhole)
    (a21 : Memref sig .tc .smem S1x64 .f32) (h21 : a21.IsWhole)
    (a22 : Memref sig .tc .smem S1x1 .f32) (h22 : a22.IsWhole)
    (a23 : Memref sig .tc .vmem S64x2048 .f32) (h23 : a23.IsWhole)
    (x0 : Vec Ideal S64x512 .f32) (x1 : Vec Ideal S2048x512 .f32) (x2 : Vec Ideal S1x1 .f32) (x3 : Vec Ideal S512x512 .f32) (x4 x5 x6 : Vec Ideal S1x512 .f32) (x7 : Vec Ideal S512x512 .f32) (x8 : Vec Ideal S1x512 .f32) (x9 : Vec Ideal S512x512 .f32) (x10 x11 x12 : Vec Ideal S1x512 .f32) (x13 : Vec Ideal S512x512 .f32) (x14 : Vec Ideal S1x512 .f32) (x15 : Vec Ideal S512x512 .f32) (x16 : Vec Ideal S1x512 .f32) (x17 : Vec Ideal S512x512 .f32) (x18 : Vec Ideal S1x512 .f32) (x19 : Vec Ideal S64x3 .f32) (x20 x21 : Vec Ideal S1x64 .f32) (x22 : Vec Ideal S1x1 .f32)
    (i : Fin 64) (j : Fin 2048) :
    out0_A_23 (F := Ideal) c a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10 x11 x12 x13 x14 x15 x16 x17 x18 x19 x20 x21 x22 (ix2 i j)
      = fuse (cosK (prow x0 x3 x4 x5 x6 x7 x8 i) (prow x1 x9 x10 x11 x12 x13 x14 j) (x2 (ix2 0 0)))
          (eucK (prow x0 x3 x4 x5 x6 x7 x8 i) (prow x1 x9 x10 x11 x12 x13 x14 j))
          (attK (dense (prow x0 x3 x4 x5 x6 x7 x8 i) (mat x15) (row x16 0))
            (fun j' => dense (prow x1 x9 x10 x11 x12 x13 x14 j') (mat x17) (row x18 0)) j)
          (mat x19) (row x20 0) (row x21 0) (x22 (ix2 0 0)) := by
  frame_out
  generalize hc : k0_pay16 (F := Ideal) _ _ _ _ = cc
  generalize he : k0_pay17 (F := Ideal) _ _ _ = ee
  generalize ha : k0_pay25 (F := Ideal) _ _ _ _ = aa
  generalize hb : k0_pay26 (F := Ideal) _ _ = bb
  trans fuse (cc (ix2 i j)) (ee (ix2 i j)) (k0_pay27 aa bb (ix2 i j)) (mat x19) (row x20 0) (row x21 0) (x22 (ix2 0 0))
  · pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98]
    unfold fuse
    rw [sum_eq_upto]
    rfl
  · rw [← hc, ← he, ← ha, ← hb, pay16_at, pay17_at, heads_at _ _ _ _ _ _ _ _ _ rfl rfl]
    simp only [pay19_at, pay20_at, qp_at, kp_at]
    pointwise []

end Cert.Proof.KOut

end
-- ==== Proof.KEntry.lean ====
/- What the blocks handed to the kernel's body hold, in the arguments. -/
module

public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.Proof.KEntry

open Cert.KernelIdeal Cert.KernelIdeal.Gen Idealize.ShloMosaic Idealize.ShloMosaic.TcCoe
open Idealize.SL Idealize.SL.Sem

variable (m : (ℓ : Loc nD τ sig) → Buf (Elt Ideal) ℓ)

/-- Every window of the one grid point lies at the origin. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![0, 0] :=
  (by decide +kernel : ∀ t : Fin grid0.N, _)

/-- A transposed matrix at an index known to be `(a, b)`. -/
theorem transposed_at (x : FVec Ideal S512x512 .f32) (y : S512x512.Idx) (a b : Fin 512) (hy : y = ix2 a b) :
    transpose S512x512 [1, 0] x transposes_S512x512_S512x512_1_0 y = x (ix2 b a) := by
  subst hy
  pointwise

/-- The kernel's block 0 is argument 0. -/
theorem e0 (c : Dev nD) (a : Fin 64) (b : Fin 512) : iblk m c 0 t0_0 (ix2 a b) = m ((c : Thread nD τ).loc main_arg0) (ix2 a b) := by blk_point [iblk, V, idx t0_0]

/-- The kernel's block 1 is argument 1. -/
theorem e1 (c : Dev nD) (a : Fin 2048) (b : Fin 512) : iblk m c 1 t0_0 (ix2 a b) = m ((c : Thread nD τ).loc main_arg1) (ix2 a b) := by blk_point [iblk, V, idx t0_0]

/-- The kernel's block 2 is argument 2 exponentiated. -/
theorem e2 (c : Dev nD) : iblk m c 2 t0_0 (ix2 0 0) = Ideal.exp (m ((c : Thread nD τ).loc main_arg2) ix0) := by blk_point [iblk, V, idx t0_0]

/-- The kernel's block 3 is argument 3, transposed. -/
theorem e3 (c : Dev nD) (a : Fin 512) (b : Fin 512) : iblk m c 3 t0_0 (ix2 a b) = m ((c : Thread nD τ).loc main_arg3) (ix2 b a) := by
  show V m c main_call0_v2 ((win0_3.blk t0_0).view.emb (ix2 a b)) = _
  entry_read
  exact transposed_at _ _ a b (by blk_ext [idx t0_0])

/-- The kernel's block 4 is argument 4. -/
theorem e4 (c : Dev nD) (a : Fin 512) : iblk m c 4 t0_0 (ix2 0 a) = m ((c : Thread nD τ).loc main_arg4) (ix1 a) := by blk_point [iblk, V, idx t0_0]

/-- The kernel's block 5 is argument 5. -/
theorem e5 (c : Dev nD) (a : Fin 512) : iblk m c 5 t0_0 (ix2 0 a) = m ((c : Thread nD τ).loc main_arg5) (ix1 a) := by blk_point [iblk, V, idx t0_0]

/-- The kernel's block 6 is argument 6. -/
theorem e6 (c : Dev nD) (a : Fin 512) : iblk m c 6 t0_0 (ix2 0 a) = m ((c : Thread nD τ).loc main_arg6) (ix1 a) := by blk_point [iblk, V, idx t0_0]

/-- The kernel's block 7 is argument 7, transposed. -/
theorem e7 (c : Dev nD) (a : Fin 512) (b : Fin 512) : iblk m c 7 t0_0 (ix2 a b) = m ((c : Thread nD τ).loc main_arg7) (ix2 b a) := by
  show V m c main_call0_v6 ((win0_7.blk t0_0).view.emb (ix2 a b)) = _
  entry_read
  exact transposed_at _ _ a b (by blk_ext [idx t0_0])

/-- The kernel's block 8 is argument 8. -/
theorem e8 (c : Dev nD) (a : Fin 512) : iblk m c 8 t0_0 (ix2 0 a) = m ((c : Thread nD τ).loc main_arg8) (ix1 a) := by blk_point [iblk, V, idx t0_0]

/-- The kernel's block 9 is argument 9, transposed. -/
theorem e9 (c : Dev nD) (a : Fin 512) (b : Fin 512) : iblk m c 9 t0_0 (ix2 a b) = m ((c : Thread nD τ).loc main_arg9) (ix2 b a) := by
  show V m c main_call0_v8 ((win0_9.blk t0_0).view.emb (ix2 a b)) = _
  entry_read
  exact transposed_at _ _ a b (by blk_ext [idx t0_0])

/-- The kernel's block 10 is argument 10. -/
theorem e10 (c : Dev nD) (a : Fin 512) : iblk m c 10 t0_0 (ix2 0 a) = m ((c : Thread nD τ).loc main_arg10) (ix1 a) := by blk_point [iblk, V, idx t0_0]

/-- The kernel's block 11 is argument 11. -/
theorem e11 (c : Dev nD) (a : Fin 512) : iblk m c 11 t0_0 (ix2 0 a) = m ((c : Thread nD τ).loc main_arg11) (ix1 a) := by blk_point [iblk, V, idx t0_0]

/-- The kernel's block 12 is argument 12. -/
theorem e12 (c : Dev nD) (a : Fin 512) : iblk m c 12 t0_0 (ix2 0 a) = m ((c : Thread nD τ).loc main_arg12) (ix1 a) := by blk_point [iblk, V, idx t0_0]

/-- The kernel's block 13 is argument 13, transposed. -/
theorem e13 (c : Dev nD) (a : Fin 512) (b : Fin 512) : iblk m c 13 t0_0 (ix2 a b) = m ((c : Thread nD τ).loc main_arg13) (ix2 b a) := by
  show V m c main_call0_v12 ((win0_13.blk t0_0).view.emb (ix2 a b)) = _
  entry_read
  exact transposed_at _ _ a b (by blk_ext [idx t0_0])

/-- The kernel's block 14 is argument 14. -/
theorem e14 (c : Dev nD) (a : Fin 512) : iblk m c 14 t0_0 (ix2 0 a) = m ((c : Thread nD τ).loc main_arg14) (ix1 a) := by blk_point [iblk, V, idx t0_0]

/-- The kernel's block 15 is argument 15, transposed. -/
theorem e15 (c : Dev nD) (a : Fin 512) (b : Fin 512) : iblk m c 15 t0_0 (ix2 a b) = m ((c : Thread nD τ).loc main_arg15) (ix2 b a) := by
  show V m c main_call0_v14 ((win0_15.blk t0_0).view.emb (ix2 a b)) = _
  entry_read
  exact transposed_at _ _ a b (by blk_ext [idx t0_0])

/-- The kernel's block 16 is argument 16. -/
theorem e16 (c : Dev nD) (a : Fin 512) : iblk m c 16 t0_0 (ix2 0 a) = m ((c : Thread nD τ).loc main_arg16) (ix1 a) := by blk_point [iblk, V, idx t0_0]

/-- The kernel's block 17 is argument 17, transposed. -/
theorem e17 (c : Dev nD) (a : Fin 512) (b : Fin 512) : iblk m c 17 t0_0 (ix2 a b) = m ((c : Thread nD τ).loc main_arg17) (ix2 b a) := by
  show V m c main_call0_v16 ((win0_17.blk t0_0).view.emb (ix2 a b)) = _
  entry_read
  exact transposed_at _ _ a b (by blk_ext [idx t0_0])

/-- The kernel's block 18 is argument 18. -/
theorem e18 (c : Dev nD) (a : Fin 512) : iblk m c 18 t0_0 (ix2 0 a) = m ((c : Thread nD τ).loc main_arg18) (ix1 a) := by blk_point [iblk, V, idx t0_0]

/-- The kernel's block 19 is argument 19. -/
theorem e19 (c : Dev nD) (a : Fin 64) (b : Fin 3) : iblk m c 19 t0_0 (ix2 a b) = m ((c : Thread nD τ).loc main_arg19) (ix2 a b) := by blk_point [iblk, V, idx t0_0]

/-- The kernel's block 20 is argument 20. -/
theorem e20 (c : Dev nD) (a : Fin 64) : iblk m c 20 t0_0 (ix2 0 a) = m ((c : Thread nD τ).loc main_arg20) (ix1 a) := by blk_point [iblk, V, idx t0_0]

/-- The kernel's block 21 is argument 21. -/
theorem e21 (c : Dev nD) (a : Fin 64) : iblk m c 21 t0_0 (ix2 0 a) = m ((c : Thread nD τ).loc main_arg21) (ix2 0 a) := by blk_point [iblk, V, idx t0_0]

/-- The kernel's block 22 is argument 22. -/
theorem e22 (c : Dev nD) : iblk m c 22 t0_0 (ix2 0 0) = m ((c : Thread nD τ).loc main_arg22) (ix1 0) := by blk_point [iblk, V, idx t0_0]

end Cert.Proof.KEntry

end
-- ==== Proof.KArray.lean ====
/- What the kernel's output array holds after the run, in the arguments: the answer in the kernel's spelling. -/
module

public import proofs.«01_k».proof.Proof.KOut
public import proofs.«01_k».proof.Proof.KEntry
public import Idealize.ShloMosaic.Lib.Claim

@[expose] public section

set_option maxRecDepth 16384

noncomputable section

namespace Cert.Proof.KArray

open Cert.KernelIdeal Cert.KernelIdeal.Gen Idealize.ShloMosaic Idealize.ShloMosaic.TcCoe
open Idealize.SL Idealize.SL.Sem
open Cert.Proof.KEntry
open Cert.Spec Cert.Proof.KProj Cert.Proof.KPair Cert.Proof.KOut

variable (m : (ℓ : Loc nD τ sig) → Buf (Elt Ideal) ℓ) (ρ : Dev nD → PrngReg)

/-- The answer at query `i` and candidate `j`, over the kernel's arguments. -/
def answerK (c : Dev nD) (i : Fin 64) (j : Fin 2048) : EReal :=
  answer lnK erfK cosK eucK attK
    (fun a b => m ((c : Thread nD τ).loc main_arg0) (ix2 a b))
    (fun a b => m ((c : Thread nD τ).loc main_arg1) (ix2 a b))
    (m ((c : Thread nD τ).loc main_arg2) ix0)
    (fun a b => m ((c : Thread nD τ).loc main_arg3) (ix2 b a))
    (fun a => m ((c : Thread nD τ).loc main_arg4) (ix1 a))
    (fun a => m ((c : Thread nD τ).loc main_arg5) (ix1 a))
    (fun a => m ((c : Thread nD τ).loc main_arg6) (ix1 a))
    (fun a b => m ((c : Thread nD τ).loc main_arg7) (ix2 b a))
    (fun a => m ((c : Thread nD τ).loc main_arg8) (ix1 a))
    (fun a b => m ((c : Thread nD τ).loc main_arg9) (ix2 b a))
    (fun a => m ((c : Thread nD τ).loc main_arg10) (ix1 a))
    (fun a => m ((c : Thread nD τ).loc main_arg11) (ix1 a))
    (fun a => m ((c : Thread nD τ).loc main_arg12) (ix1 a))
    (fun a b => m ((c : Thread nD τ).loc main_arg13) (ix2 b a))
    (fun a => m ((c : Thread nD τ).loc main_arg14) (ix1 a))
    (fun a b => m ((c : Thread nD τ).loc main_arg15) (ix2 b a))
    (fun a => m ((c : Thread nD τ).loc main_arg16) (ix1 a))
    (fun a b => m ((c : Thread nD τ).loc main_arg17) (ix2 b a))
    (fun a => m ((c : Thread nD τ).loc main_arg18) (ix1 a))
    (fun a b => m ((c : Thread nD τ).loc main_arg19) (ix2 a b))
    (fun a => m ((c : Thread nD τ).loc main_arg20) (ix1 a))
    (fun a => m ((c : Thread nD τ).loc main_arg21) (ix2 0 a))
    (m ((c : Thread nD τ).loc main_arg22) (ix1 0)) i j

/-- An array known entry by entry, as a matrix. -/
theorem mat_eq {n p : ℕ} {X : FVec Ideal ⟨2, ![n, p]⟩ .f32} {f : Fin n → Fin p → EReal} (h : ∀ a b, X (ix2 a b) = f a b) :
    mat X = f := funext fun a => funext (h a)

/-- An array known entry by entry, one row of it. -/
theorem row_eq {n p : ℕ} {X : FVec Ideal ⟨2, ![n, p]⟩ .f32} {f : Fin n → Fin p → EReal} (h : ∀ a b, X (ix2 a b) = f a b)
    (i : Fin n) : row X i = f i := funext (h i)

/-- An array of one row known entry by entry. -/
theorem row0_eq {p : ℕ} {X : FVec Ideal ⟨2, ![1, p]⟩ .f32} {f : Fin p → EReal} (h : ∀ a, X (ix2 0 a) = f a) :
    row X 0 = f := funext h

/-- The output array after the run, at an index. -/
theorem final_at (c : Dev nD) (i : Fin 64) (j : Fin 2048) :
    outsAt0 m c t0_0 (ix2 i j) = answerK m c i j := by
  unfold outsAt0
  rw [out_at]
  unfold answerK answer
  simp only [prow, e2, e22, row_eq (e0 m c), row_eq (e1 m c), mat_eq (e3 m c), mat_eq (e7 m c), mat_eq (e9 m c), mat_eq (e13 m c), mat_eq (e15 m c), mat_eq (e17 m c), mat_eq (e19 m c),
    row0_eq (e4 m c), row0_eq (e5 m c), row0_eq (e6 m c), row0_eq (e8 m c), row0_eq (e10 m c), row0_eq (e11 m c), row0_eq (e12 m c), row0_eq (e14 m c), row0_eq (e16 m c), row0_eq (e18 m c), row0_eq (e20 m c), row0_eq (e21 m c)]

/-- The output array after the run. -/
theorem final (c : Dev nD) : (dats m 0 c).arrAt 23 cfg0.N = fun y => answerK m c (y 0) (y 1) := by
  refine (dats m 0 c).arrAt_eq_of_after_last 23 t0_0 (by decide +kernel) _ fun y => ?_
  blk_simp
  rw [after0_23]
  rw [eq_ix2 y]
  exact final_at m c _ _

end Cert.Proof.KArray

end
-- ==== Proof.RProj.lean ====
/- What the reference's projections hold at an index: each row is `Spec.proj` of the input row, in the reference's
   spelling. -/
module

public import proofs.«01_k».proof.Proof.Gen.ReferenceIdeal.Run
public import proofs.«01_k».proof.Proof.Spec

@[expose] public section

set_option maxRecDepth 16384

noncomputable section

namespace Cert.Proof.RProj

open Cert.ReferenceIdeal Cert.ReferenceIdeal.Value Idealize.ShloMosaic Idealize.ShloMosaic.TcCoe
open Idealize.SL Idealize.SL.Sem
open Cert.Spec

variable (V0 : Valuation τ sig (Elt Ideal))

/-- An argument matrix by its two coordinates. -/
abbrev mat {n p : ℕ} (x : FVec Ideal ⟨2, ![n, p]⟩ .f32) : Fin n → Fin p → EReal := fun a b => x (ix2 a b)

/-- An argument weight, stored output by input, indexed input by output. -/
abbrev matT {n p : ℕ} (x : FVec Ideal ⟨2, ![n, p]⟩ .f32) : Fin p → Fin n → EReal := fun a b => x (ix2 b a)

/-- An argument vector by its coordinate. -/
abbrev vec {n : ℕ} (x : FVec Ideal ⟨1, ![n]⟩ .f32) : Fin n → EReal := fun a => x (ix1 a)

/-- A number times the reciprocal root of two: the error function's argument in GELU. -/
abbrev overRoot2 (z : EReal) : EReal := z * w32 0x3F3504F3#32

/-- The query side's first dense layer. -/
theorem v4_at (i : Fin 64) (k : Fin 512) :
    res_main_v4 V0 (ix2 i k)
      = dense (mat (V0 (Proc.devRef .tc main_arg0)) i) (matT (V0 (Proc.devRef .tc main_arg3))) (vec (V0 (Proc.devRef .tc main_arg4))) k := by
  pointwise [res_main_v4]
  rfl

/-- The query side's layer norm. -/
theorem v28_at (i : Fin 64) (k : Fin 512) :
    res_main_v28 V0 (ix2 i k)
      = lnR (fun e => res_main_v4 V0 (ix2 i e)) (vec (V0 (Proc.devRef .tc main_arg5))) (vec (V0 (Proc.devRef .tc main_arg6))) k := by
  pointwise [res_main_v28, res_main_v10, res_main_v8]
  rfl

/-- The query side's error function argument, its auxiliary variable and the error function at the absolute value. -/
theorem v67_at (i : Fin 64) (k : Fin 512) :
    res_main_v67 V0 (ix2 i k) = erfAbs (overRoot2 (res_main_v28 V0 (ix2 i k))) := by
  pointwise [res_main_v67, res_main_v51, res_main_v56, res_main_v39, res_main_v32]
  rfl

/-- The query side's GELU and second dense layer. -/
theorem v79_dense (i : Fin 64) (k : Fin 512) :
    res_main_v79 V0 (ix2 i k)
      = dense (fun e => gelu erfR (res_main_v28 V0 (ix2 i e))) (matT (V0 (Proc.devRef .tc main_arg7))) (vec (V0 (Proc.devRef .tc main_arg8))) k := by
  pointwise [res_main_v79, res_main_v32]
  simp only [v67_at]
  rfl

/-- The query side's projection. -/
theorem v79_at (i : Fin 64) (k : Fin 512) :
    res_main_v79 V0 (ix2 i k)
      = proj lnR erfR (mat (V0 (Proc.devRef .tc main_arg0)) i) (matT (V0 (Proc.devRef .tc main_arg3))) (vec (V0 (Proc.devRef .tc main_arg4)))
          (vec (V0 (Proc.devRef .tc main_arg5))) (vec (V0 (Proc.devRef .tc main_arg6))) (matT (V0 (Proc.devRef .tc main_arg7)))
          (vec (V0 (Proc.devRef .tc main_arg8))) k := by
  rw [v79_dense]
  simp only [v28_at, v4_at]
  rfl

/-- The key side's first dense layer. -/
theorem v84_at (i : Fin 2048) (k : Fin 512) :
    res_main_v84 V0 (ix2 i k)
      = dense (mat (V0 (Proc.devRef .tc main_arg1)) i) (matT (V0 (Proc.devRef .tc main_arg9))) (vec (V0 (Proc.devRef .tc main_arg10))) k := by
  pointwise [res_main_v84]
  rfl

/-- The key side's layer norm. -/
theorem v108_at (i : Fin 2048) (k : Fin 512) :
    res_main_v108 V0 (ix2 i k)
      = lnR (fun e => res_main_v84 V0 (ix2 i e)) (vec (V0 (Proc.devRef .tc main_arg11))) (vec (V0 (Proc.devRef .tc main_arg12))) k := by
  pointwise [res_main_v108, res_main_v90, res_main_v88]
  rfl

/-- The key side's error function argument, its auxiliary variable and the error function at the absolute value. -/
theorem v147_at (i : Fin 2048) (k : Fin 512) :
    res_main_v147 V0 (ix2 i k) = erfAbs (overRoot2 (res_main_v108 V0 (ix2 i k))) := by
  pointwise [res_main_v147, res_main_v131, res_main_v136, res_main_v119, res_main_v112]
  rfl

/-- The key side's GELU and second dense layer. -/
theorem v159_dense (i : Fin 2048) (k : Fin 512) :
    res_main_v159 V0 (ix2 i k)
      = dense (fun e => gelu erfR (res_main_v108 V0 (ix2 i e))) (matT (V0 (Proc.devRef .tc main_arg13))) (vec (V0 (Proc.devRef .tc main_arg14))) k := by
  pointwise [res_main_v159, res_main_v112]
  simp only [v147_at]
  rfl

/-- The key side's projection. -/
theorem v159_at (i : Fin 2048) (k : Fin 512) :
    res_main_v159 V0 (ix2 i k)
      = proj lnR erfR (mat (V0 (Proc.devRef .tc main_arg1)) i) (matT (V0 (Proc.devRef .tc main_arg9))) (vec (V0 (Proc.devRef .tc main_arg10)))
          (vec (V0 (Proc.devRef .tc main_arg11))) (vec (V0 (Proc.devRef .tc main_arg12))) (matT (V0 (Proc.devRef .tc main_arg13)))
          (vec (V0 (Proc.devRef .tc main_arg14))) k := by
  rw [v159_dense]
  simp only [v108_at, v84_at]
  rfl

end Cert.Proof.RProj

end
-- ==== Proof.ROut.lean ====
/- What the reference's three similarities hold at an index. -/
module

public import proofs.«01_k».proof.Proof.RProj

@[expose] public section

set_option maxRecDepth 16384

noncomputable section

namespace Cert.Proof.ROut

open Cert.ReferenceIdeal Cert.ReferenceIdeal.Gen Cert.ReferenceIdeal.Value Idealize.ShloMosaic Idealize.ShloMosaic.TcCoe
open Idealize.SL Idealize.SL.Sem
open Cert.Spec Cert.Proof.RProj

/-- The normalized rows' products, times the temperature. -/
theorem cosine_at (q : FVec Ideal S64x512 .f32) (k : FVec Ideal S2048x512 .f32) (T : FVec Ideal S_ .f32)
    (i : Fin 64) (j : Fin 2048) :
    mulf (Host.dotGeneral dot_S64x512_S512x2048_S64x2048_1_0_0_1_n_n none (Host.divf q (broadcastInDim S64x512 ![0, 1] bcast_S64x1_S64x512_0_1 (maximumf (Host.sqrt (broadcastInDim S64x1 ![0] bcast_S64_S64x1_0 (Host.reduceAdd (mulf q q) (constant (F := Ideal) S_ .f32 0x00000000#32) reducesTo_S64x512_S64_d1 h_S_))) (broadcastInDim S64x1 ![] bcast_S_S64x1 (constant S_ .f32 0x2B8CBCCC#32))))) (transpose S512x2048 [1, 0] (Host.divf k (broadcastInDim S2048x512 ![0, 1] bcast_S2048x1_S2048x512_0_1 (maximumf (Host.sqrt (broadcastInDim S2048x1 ![0] bcast_S2048_S2048x1_0 (Host.reduceAdd (mulf k k) (constant S_ .f32 0x00000000#32) reducesTo_S2048x512_S2048_d1 h_S_))) (broadcastInDim S2048x1 ![] bcast_S_S2048x1 (constant S_ .f32 0x2B8CBCCC#32))))) transposes_S2048x512_S512x2048_1_0)) (broadcastInDim S64x2048 ![] bcast_S_S64x2048 (Host.exp T)) (ix2 i j)
      = cosR (mat q i) (mat k j) (Ideal.exp (T ix0)) := by
  pointwise []
  rfl

variable (V0 : Valuation τ sig (Elt Ideal))

/-- The similarity by distance. -/
theorem euclid_at (i : Fin 64) (j : Fin 2048) :
    Host.divf (broadcastInDim S64x2048 ![] bcast_S_S64x2048 (constant S_ .f32 0x3F800000#32)) (addf (broadcastInDim S64x2048 ![] bcast_S_S64x2048 (constant S_ .f32 0x3F800000#32)) (Host.sqrt (Host.reduceAdd (mulf (res_main_v179 V0) (res_main_v179 V0)) (constant S_ .f32 0x00000000#32) reducesTo_S64x2048x512_S64x2048_d2 h_S_))) (ix2 i j)
      = eucR (fun d => res_main_v79 V0 (ix2 i d)) (fun d => res_main_v159 V0 (ix2 j d)) := by
  pointwise [res_main_v179]
  rfl

/-- The attention layers' rows, by head. -/
theorem v202_at (i : Fin 64) (h : Fin 8) (j : Fin 2048) :
    res_main_v202 V0 (ix3 i h j)
      = Ideal.div (headDot
          (dense (fun d => res_main_v159 V0 (ix2 j d)) (matT (V0 (Proc.devRef .tc main_arg17))) (vec (V0 (Proc.devRef .tc main_arg18))))
          (dense (fun d => res_main_v79 V0 (ix2 i d)) (matT (V0 (Proc.devRef .tc main_arg15))) (vec (V0 (Proc.devRef .tc main_arg16)))) h)
          (Ideal.sqrt (w32 0x42800000#32)) := by
  pointwise [res_main_v202]
  rfl

/-- A head's scores of one query. -/
def score (i : Fin 64) (h : Fin 8) : Fin 2048 → EReal := fun j => res_main_v202 V0 (ix3 i h j)

/-- The numerators of a softmax over the last axis. -/
theorem numerator_at (s : FVec Ideal S64x8x2048 .f32) (i : Fin 64) (h : Fin 8) (j : Fin 2048) :
    Host.exp (subf s (broadcastInDim S64x8x2048 ![0, 1, 2] bcast_S64x8x1_S64x8x2048_0_1_2 (broadcastInDim S64x8x1 ![0, 1] bcast_S64x8_S64x8x1_0_1 (maximumf (broadcastInDim S64x8 ![] bcast_S_S64x8 (constant S_ .f32 0xFF800000#32)) (Host.reduce FloatOps.maximumf s (constant S_ .f32 0xFF800000#32) reducesTo_S64x8x2048_S64x8_d2 h_S_))))) (ix3 i h j)
      = Ideal.exp (s (ix3 i h j) - Finset.univ.fold max (w32 0xFF800000#32) (fun j' => s (ix3 i h j'))) := by
  pointwise []
  rw [max_eq_right ((Finset.le_fold_max _).2 (Or.inl le_rfl))]

/-- The softmax's numerators. -/
theorem v209_at (i : Fin 64) (h : Fin 8) (j : Fin 2048) :
    res_main_v209 V0 (ix3 i h j)
      = Ideal.exp (score V0 i h j - Finset.univ.fold max (w32 0xFF800000#32) (score V0 i h)) :=
  numerator_at (res_main_v202 V0) i h j

/-- The attention similarity. -/
theorem attend_at (i : Fin 64) (j : Fin 2048) :
    Host.divf (Host.reduceAdd (Host.divf (res_main_v209 V0) (broadcastInDim S64x8x2048 ![0, 1, 2] bcast_S64x8x1_S64x8x2048_0_1_2 (broadcastInDim S64x8x1 ![0, 1] bcast_S64x8_S64x8x1_0_1 (Host.reduceAdd (res_main_v209 V0) (constant S_ .f32 0x00000000#32) reducesTo_S64x8x2048_S64x8_d2 h_S_)))) (constant S_ .f32 0x00000000#32) reducesTo_S64x8x2048_S64x2048_d1 h_S_) (broadcastInDim S64x2048 ![] bcast_S_S64x2048 (constant S_ .f32 0x41000000#32)) (ix2 i j)
      = Ideal.div (∑ h : Fin 8, soft (score V0 i h) j) (w32 0x41000000#32) := by
  pointwise []
  simp only [v209_at]
  rfl

end Cert.Proof.ROut

end
-- ==== Proof.RFuse.lean ====
/- What the reference's fusion network holds at an index. -/
module

public import proofs.«01_k».proof.Proof.RProj

@[expose] public section

set_option maxRecDepth 16384

noncomputable section

namespace Cert.Proof.RFuse

open Cert.ReferenceIdeal Cert.ReferenceIdeal.Gen Cert.ReferenceIdeal.Value Idealize.ShloMosaic Idealize.ShloMosaic.TcCoe
open Idealize.SL Idealize.SL.Sem
open Cert.Spec Cert.Proof.RProj

/-- The fusion network over three similarities. -/
theorem fuse_at (c e l : FVec Ideal S64x2048 .f32) (w : FVec Ideal S64x3 .f32) (b : FVec Ideal S64 .f32)
    (v : FVec Ideal S1x64 .f32) (d : FVec Ideal S1 .f32) (i : Fin 64) (j : Fin 2048) :
    shapeCast _ (Host.divf (broadcastInDim S64x2048x1 ![] bcast_S_S64x2048x1 (constant (F := Ideal) S_ .f32 0x3F800000#32)) (addf (broadcastInDim S64x2048x1 ![] bcast_S_S64x2048x1 (constant S_ .f32 0x3F800000#32)) (Host.exp (Host.negf (addf (Host.dotGeneral dot_S64x2048x64_S64x1_S64x2048x1_2_0_01_1_n_n none (maximumf (addf (Host.dotGeneral dot_S64x2048x3_S3x64_S64x2048x64_2_0_01_1_n_n none ((concatenate S64x2048x3 2 [⟨S64x2048x1, ((broadcastInDim S64x2048x1 ![0, 1] bcast_S64x2048_S64x2048x1_0_1 c) : FVec Ideal S64x2048x1 .f32)⟩, ⟨S64x2048x1, ((broadcastInDim S64x2048x1 ![0, 1] bcast_S64x2048_S64x2048x1_0_1 e) : FVec Ideal S64x2048x1 .f32)⟩, ⟨S64x2048x1, ((broadcastInDim S64x2048x1 ![0, 1] bcast_S64x2048_S64x2048x1_0_1 l) : FVec Ideal S64x2048x1 .f32)⟩] concatenates_S64x2048x1_S64x2048x1_S64x2048x1_S64x2048x3_d2 : FVec Ideal S64x2048x3 .f32)) (transpose S3x64 [1, 0] w transposes_S64x3_S3x64_1_0)) (broadcastInDim S64x2048x64 ![0, 1, 2] bcast_S1x1x64_S64x2048x64_0_1_2 (broadcastInDim S1x1x64 ![2] bcast_S64_S1x1x64_2 b))) (broadcastInDim S64x2048x64 ![] bcast_S_S64x2048x64 (constant S_ .f32 0x00000000#32))) (transpose S64x1 [1, 0] v transposes_S1x64_S64x1_1_0)) (broadcastInDim S64x2048x1 ![0, 1, 2] bcast_S1x1x1_S64x2048x1_0_1_2 (broadcastInDim S1x1x1 ![2] bcast_S1_S1x1x1_2 d))))))) shapeCasts_S64x2048x1_S64x2048 (ix2 i j)
      = fuse (c (ix2 i j)) (e (ix2 i j)) (l (ix2 i j)) (mat w) (vec b) (fun a => v (ix2 0 a)) (d (ix1 0)) := by
  pointwise []
  simp only [Fin.sum_univ_three]
  rfl

end Cert.Proof.RFuse

end
-- ==== Proof.RAnswer.lean ====
/- What the reference's result holds at an index: the answer in the reference's spelling. -/
module

public import proofs.«01_k».proof.Proof.ROut
public import proofs.«01_k».proof.Proof.RFuse

@[expose] public section

set_option maxRecDepth 16384

noncomputable section

namespace Cert.Proof.RAnswer

open Cert.ReferenceIdeal Cert.ReferenceIdeal.Gen Cert.ReferenceIdeal.Value Idealize.ShloMosaic Idealize.ShloMosaic.TcCoe
open Idealize.SL Idealize.SL.Sem
open Cert.Spec Cert.Proof.RProj Cert.Proof.ROut Cert.Proof.RFuse

variable (V0 : Valuation τ sig (Elt Ideal))

/-- The answer at query `i` and candidate `j`, over the reference's arguments. -/
def answerR (i : Fin 64) (j : Fin 2048) : EReal :=
  answer lnR erfR cosR eucR attR
    (mat (V0 (Proc.devRef .tc main_arg0)))
    (mat (V0 (Proc.devRef .tc main_arg1)))
    (V0 (Proc.devRef .tc main_arg2) ix0)
    (matT (V0 (Proc.devRef .tc main_arg3)))
    (vec (V0 (Proc.devRef .tc main_arg4)))
    (vec (V0 (Proc.devRef .tc main_arg5)))
    (vec (V0 (Proc.devRef .tc main_arg6)))
    (matT (V0 (Proc.devRef .tc main_arg7)))
    (vec (V0 (Proc.devRef .tc main_arg8)))
    (matT (V0 (Proc.devRef .tc main_arg9)))
    (vec (V0 (Proc.devRef .tc main_arg10)))
    (vec (V0 (Proc.devRef .tc main_arg11)))
    (vec (V0 (Proc.devRef .tc main_arg12)))
    (matT (V0 (Proc.devRef .tc main_arg13)))
    (vec (V0 (Proc.devRef .tc main_arg14)))
    (matT (V0 (Proc.devRef .tc main_arg15)))
    (vec (V0 (Proc.devRef .tc main_arg16)))
    (matT (V0 (Proc.devRef .tc main_arg17)))
    (vec (V0 (Proc.devRef .tc main_arg18)))
    (mat (V0 (Proc.devRef .tc main_arg19)))
    (vec (V0 (Proc.devRef .tc main_arg20)))
    (fun a => V0 (Proc.devRef .tc main_arg21) (ix2 0 a))
    (V0 (Proc.devRef .tc main_arg22) (ix1 0)) i j

/-- The reference's projected query. -/
theorem query_row (i : Fin 64) : mat (res_main_v79 V0) i
    = proj lnR erfR (mat (V0 (Proc.devRef .tc main_arg0)) i) (matT (V0 (Proc.devRef .tc main_arg3))) (vec (V0 (Proc.devRef .tc main_arg4))) (vec (V0 (Proc.devRef .tc main_arg5))) (vec (V0 (Proc.devRef .tc main_arg6)))
        (matT (V0 (Proc.devRef .tc main_arg7))) (vec (V0 (Proc.devRef .tc main_arg8))) := funext (v79_at V0 i)

/-- The reference's projected candidate. -/
theorem key_row (j : Fin 2048) : mat (res_main_v159 V0) j
    = proj lnR erfR (mat (V0 (Proc.devRef .tc main_arg1)) j) (matT (V0 (Proc.devRef .tc main_arg9))) (vec (V0 (Proc.devRef .tc main_arg10))) (vec (V0 (Proc.devRef .tc main_arg11))) (vec (V0 (Proc.devRef .tc main_arg12)))
        (matT (V0 (Proc.devRef .tc main_arg13))) (vec (V0 (Proc.devRef .tc main_arg14))) := funext (v159_at V0 j)

/-- One head's scores of a query: the products of the attention layers' rows over the root of the head's width. -/
theorem score_eq (i : Fin 64) (h : Fin 8) : score V0 i h
    = fun j' => Ideal.div (headDot
          (dense (mat (res_main_v159 V0) j') (matT (V0 (Proc.devRef .tc main_arg17))) (vec (V0 (Proc.devRef .tc main_arg18))))
          (dense (mat (res_main_v79 V0) i) (matT (V0 (Proc.devRef .tc main_arg15))) (vec (V0 (Proc.devRef .tc main_arg16)))) h)
          (Ideal.sqrt (w32 0x42800000#32)) := funext (v202_at V0 i h)

/-- The result array after the reference's operations, at an index. -/
theorem result_at (i : Fin 64) (j : Fin 2048) :
    val5 V0 (Proc.devRef .tc main_v238) (ix2 i j) = answerR V0 i j := by
  rw [val5_main_v238]
  refine (fuse_at _ _ _ _ _ _ _ i j).trans ?_
  rw [cosine_at, euclid_at, attend_at]
  simp only [score_eq]
  unfold answerR answer attR
  rw [show (fun d => res_main_v79 V0 (ix2 i d)) = mat (res_main_v79 V0) i from rfl,
    show (fun d => res_main_v159 V0 (ix2 j d)) = mat (res_main_v159 V0) j from rfl]
  simp only [query_row, key_row]

/-- The result array after the reference's operations. -/
theorem result (V0 : Valuation τ sig (Elt Ideal)) :
    val5 V0 (Proc.devRef .tc main_v238) = fun y => answerR V0 (y 0) (y 1) := by
  funext y
  rw [eq_ix2 y]
  exact result_at V0 _ _

end Cert.Proof.RAnswer

end
-- ==== Proof.Words.lean ====
/- The values of the binary32 words that the two programs carry. -/
module

public import proofs.«01_k».proof.Proof.Spec

@[expose] public section

noncomputable section

namespace Cert.Words

open Idealize.ShloMosaic Cert.Spec

/-- The word of minus infinity is the bottom. -/
theorem w_bot : w32 0xFF800000#32 = ⊥ := by simp [Ideal.ofBits, Ideal.ieee]

/-- The word of one. -/
theorem w_neg_one : w32 0xBF800000#32 = ((-1 : ℝ) : EReal) := by
  simp [Ideal.ofBits, Ideal.ieee, -EReal.coe_mul]; norm_num

/-- The word of one half. -/
theorem w_half : w32 0x3F000000#32 = ((1 / 2 : ℝ) : EReal) := by
  simp [Ideal.ofBits, Ideal.ieee, -EReal.coe_mul]; norm_num

/-- The word of one eighth. -/
theorem w_eighth : w32 0x3E000000#32 = ((1 / 8 : ℝ) : EReal) := by
  simp [Ideal.ofBits, Ideal.ieee, -EReal.coe_mul]; norm_num

/-- The word of two. -/
theorem w_two : w32 0x40000000#32 = ((2 : ℝ) : EReal) := by
  simp [Ideal.ofBits, Ideal.ieee, -EReal.coe_mul]; norm_num

/-- The word of eight. -/
theorem w_eight : w32 0x41000000#32 = ((8 : ℝ) : EReal) := by
  simp [Ideal.ofBits, Ideal.ieee, -EReal.coe_mul]; norm_num

/-- The word of 64. -/
theorem w_64 : w32 0x42800000#32 = ((64 : ℝ) : EReal) := by
  simp [Ideal.ofBits, Ideal.ieee, -EReal.coe_mul]; norm_num

/-- The word of 512. -/
theorem w_512 : w32 0x44000000#32 = ((512 : ℝ) : EReal) := by
  simp [Ideal.ofBits, Ideal.ieee, -EReal.coe_mul]; norm_num

/-- The layer norm's epsilon, near 1e-5. -/
def eps : ℝ := 10995116 / 2 ^ 40

/-- The least norm, near 1e-12. -/
def tiny : ℝ := 9223372 / 2 ^ 63

/-- The scale `1/√2`, rounded. -/
def rt : ℝ := 11863283 / 2 ^ 24

/-- The error function's `p`. -/
def ep : ℝ := 10992133 / 2 ^ 25

/-- The error function's first coefficient. -/
def e1 : ℝ := 8550662 / 2 ^ 25

/-- The error function's second coefficient. -/
def e2 : ℝ := 9546126 / 2 ^ 25

/-- The error function's third coefficient. -/
def e3 : ℝ := 11923683 / 2 ^ 23

/-- The error function's fourth coefficient. -/
def e4 : ℝ := 12189923 / 2 ^ 23

/-- The error function's fifth coefficient. -/
def e5 : ℝ := 8903714 / 2 ^ 23

/-- The word of `eps`. -/
theorem w_eps : w32 0x3727C5AC#32 = (eps : EReal) := by
  simp [Ideal.ofBits, Ideal.ieee, -EReal.coe_mul, eps]; norm_num

/-- The word of `tiny`. -/
theorem w_tiny : w32 0x2B8CBCCC#32 = (tiny : EReal) := by
  simp [Ideal.ofBits, Ideal.ieee, -EReal.coe_mul, tiny]; norm_num

/-- The word of `rt`. -/
theorem w_rt : w32 0x3F3504F3#32 = (rt : EReal) := by
  simp [Ideal.ofBits, Ideal.ieee, -EReal.coe_mul, rt]; norm_num

/-- The word of `ep`. -/
theorem w_ep : w32 0x3EA7BA05#32 = (ep : EReal) := by
  simp [Ideal.ofBits, Ideal.ieee, -EReal.coe_mul, ep]; norm_num

/-- The word of `e1`. -/
theorem w_e1 : w32 0x3E827906#32 = (e1 : EReal) := by
  simp [Ideal.ofBits, Ideal.ieee, -EReal.coe_mul, e1]; norm_num

/-- The word of `e2`. -/
theorem w_e2 : w32 0x3E91A98E#32 = (e2 : EReal) := by
  simp [Ideal.ofBits, Ideal.ieee, -EReal.coe_mul, e2]; norm_num

/-- The word of `-e2`. -/
theorem w_neg_e2 : w32 0xBE91A98E#32 = ((-e2 : ℝ) : EReal) := by
  simp [Ideal.ofBits, Ideal.ieee, -EReal.coe_mul, -EReal.coe_neg, e2]; norm_num

/-- The word of `e3`. -/
theorem w_e3 : w32 0x3FB5F0E3#32 = (e3 : EReal) := by
  simp [Ideal.ofBits, Ideal.ieee, -EReal.coe_mul, e3]; norm_num

/-- The word of `e4`. -/
theorem w_e4 : w32 0x3FBA00E3#32 = (e4 : EReal) := by
  simp [Ideal.ofBits, Ideal.ieee, -EReal.coe_mul, e4]; norm_num

/-- The word of `-e4`. -/
theorem w_neg_e4 : w32 0xBFBA00E3#32 = ((-e4 : ℝ) : EReal) := by
  simp [Ideal.ofBits, Ideal.ieee, -EReal.coe_mul, -EReal.coe_neg, e4]; norm_num

/-- The word of `e5`. -/
theorem w_e5 : w32 0x3F87DC22#32 = (e5 : EReal) := by
  simp [Ideal.ofBits, Ideal.ieee, -EReal.coe_mul, e5]; norm_num

end Cert.Words

end
-- ==== Proof.Real.lean ====
/- On real inputs the kernel's and the reference's spellings of each scalar function agree. A row of extended reals is
   handled as the coercion of a row of reals. -/
module

public import proofs.«01_k».proof.Proof.Words

@[expose] public section

noncomputable section

namespace Cert.Real

open Idealize.ShloMosaic Cert.Spec Cert.Words
open scoped BigOperators

/-- Neither infinity. -/
def IsReal (x : EReal) : Prop := ∃ r : ℝ, x = (r : EReal)

/-- A real is real. -/
theorem isReal_coe (r : ℝ) : IsReal (r : EReal) := ⟨r, rfl⟩

/-- Sums of two reals are real. -/
theorem IsReal.add {x y : EReal} : IsReal x → IsReal y → IsReal (x + y) := by
  rintro ⟨a, rfl⟩ ⟨b, rfl⟩; exact ⟨a + b, (EReal.coe_add a b).symm⟩

/-- Differences of two reals are real. -/
theorem IsReal.sub {x y : EReal} : IsReal x → IsReal y → IsReal (x - y) := by
  rintro ⟨a, rfl⟩ ⟨b, rfl⟩; exact ⟨a - b, (EReal.coe_sub a b).symm⟩

/-- Products of two reals are real. -/
theorem IsReal.mul {x y : EReal} : IsReal x → IsReal y → IsReal (x * y) := by
  rintro ⟨a, rfl⟩ ⟨b, rfl⟩; exact ⟨a * b, (EReal.coe_mul a b).symm⟩

/-- The coercion of a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of reals is the coercion of a real family. -/
theorem lift {ι : Type} {f : ι → EReal} (h : ∀ i, IsReal (f i)) : ∃ g : ι → ℝ, f = fun i => (g i : EReal) := by
  choose g hg using h
  exact ⟨g, funext hg⟩

/-- Finite sums of reals are real. -/
theorem IsReal.sum {ι : Type} (s : Finset ι) {f : ι → EReal} (h : ∀ i, IsReal (f i)) : IsReal (∑ i ∈ s, f i) := by
  obtain ⟨g, rfl⟩ := lift h
  exact ⟨_, (coe_sum s g).symm⟩

/-- The coercion of a maximum. -/
theorem coe_max (a b : ℝ) : max (a : EReal) (b : EReal) = ((max a b : ℝ) : EReal) :=
  (EReal.coe_strictMono.monotone.map_max (a := a) (b := b)).symm

/-- Division of reals by a nonzero real. -/
theorem div_coe_coe (a : ℝ) {b : ℝ} (hb : b ≠ 0) : Ideal.div (a : EReal) (b : EReal) = ((a / b : ℝ) : EReal) := by
  rw [Ideal.div_coe hb, ← EReal.coe_mul, mul_one_div]

/-- The root of a nonnegative real. -/
theorem sqrt_nonneg_coe {a : ℝ} (ha : 0 ≤ a) : Ideal.sqrt (a : EReal) = ((√a : ℝ) : EReal) := by
  rw [Ideal.sqrt_coe, if_neg (not_lt.mpr ha)]

/-- The reciprocal root of a positive real. -/
theorem rsqrt_pos_coe {a : ℝ} (ha : 0 < a) : Ideal.rsqrt (a : EReal) = (((√a)⁻¹ : ℝ) : EReal) := by
  rw [Ideal.rsqrt_coe, if_neg (not_lt.mpr ha.le), if_neg ha.ne']

/-- A dense layer over reals is real. -/
theorem dense_real {n p : ℕ} {x : Fin n → EReal} {W : Fin n → Fin p → EReal} {b : Fin p → EReal}
    (hx : ∀ d, IsReal (x d)) (hW : ∀ d e, IsReal (W d e)) (hb : ∀ e, IsReal (b e)) (e : Fin p) :
    IsReal (dense x W b e) :=
  (IsReal.sum _ fun d => (hx d).mul (hW d e)).add (hb e)

/-- The mean of a real row is real. -/
theorem mean_real {h : Fin 512 → EReal} (hh : ∀ k, IsReal (h k)) : IsReal (mean h) := by
  obtain ⟨g, rfl⟩ := lift hh
  unfold mean
  rw [w_512, ← coe_sum, div_coe_coe _ (by norm_num)]
  exact isReal_coe _

/-- The variance of a real row plus epsilon is a positive real. -/
theorem varEps_pos {h : Fin 512 → EReal} (hh : ∀ k, IsReal (h k)) : ∃ v : ℝ, 0 < v ∧ varEps h = (v : EReal) := by
  obtain ⟨m, hm⟩ := mean_real hh
  obtain ⟨g, rfl⟩ := lift hh
  refine ⟨(∑ k, (g k - m) * (g k - m)) / 512 + eps, ?_, ?_⟩
  · have h0 : 0 ≤ ∑ k, (g k - m) * (g k - m) := Finset.sum_nonneg fun k _ => mul_self_nonneg _
    have h1 : 0 < eps := by norm_num [eps]
    positivity
  · unfold varEps
    rw [hm, w_512, w_eps]
    simp only [← EReal.coe_sub, ← EReal.coe_mul]
    rw [← coe_sum, div_coe_coe _ (by norm_num), ← EReal.coe_add]

/-- Two numbers with a real sum are real. -/
theorem real_of_add {x y : EReal} (h : IsReal (x + y)) : IsReal x ∧ IsReal y := by
  obtain ⟨r, hr⟩ := h
  induction x <;> induction y <;> first
    | exact ⟨isReal_coe _, isReal_coe _⟩
    | simp at hr

/-- The terms of a real sum are real. -/
theorem real_of_sum {ι : Type} [DecidableEq ι] (s : Finset ι) (f : ι → EReal) (h : IsReal (∑ i ∈ s, f i)) :
    ∀ i ∈ s, IsReal (f i) := by
  induction s using Finset.induction_on with
  | empty => simp
  | insert a s ha ih =>
    rw [Finset.sum_insert ha] at h
    obtain ⟨h1, h2⟩ := real_of_add h
    intro i hi
    rcases Finset.mem_insert.mp hi with rfl | hi
    · exact h1
    · exact ih h2 i hi

/-- A number that isn't real is one of the infinities. -/
theorem infinite_of_not_real {x : EReal} (h : ¬ IsReal x) : x = ⊤ ∨ x = ⊥ := by
  induction x with
  | bot => exact Or.inr rfl
  | top => exact Or.inl rfl
  | coe r => exact absurd (isReal_coe r) h

/-- The mean of a row that isn't real is one of the infinities. -/
theorem mean_infinite {h : Fin 512 → EReal} (hh : ¬ ∀ k, IsReal (h k)) : mean h = ⊤ ∨ mean h = ⊥ := by
  have hs : ¬ IsReal (∑ k, h k) := fun e => hh fun k => real_of_sum Finset.univ h e k (Finset.mem_univ k)
  have hp : (0 : ℝ) < 1 / 512 := by norm_num
  unfold mean
  rw [w_512, Ideal.div_coe (by norm_num)]
  rcases infinite_of_not_real hs with e | e <;> rw [e]
  · exact Or.inl (EReal.top_mul_coe_of_pos hp)
  · exact Or.inr (EReal.bot_mul_coe_of_pos hp)

/-- The variance of a row that isn't real is infinite. -/
theorem varEps_infinite {h : Fin 512 → EReal} (hh : ¬ ∀ k, IsReal (h k)) : varEps h = ⊤ := by
  have sq : ∀ k, (h k - mean h) * (h k - mean h) = ⊤ := fun k => by
    rcases mean_infinite hh with e | e <;> rw [e]
    · simp [sub_eq_add_neg]
    · rcases eq_or_ne (h k) ⊥ with e' | e'
      · simp [e', sub_eq_add_neg]
      · simp [sub_eq_add_neg, EReal.add_top_of_ne_bot e']
  have hs : ∑ k, (h k - mean h) * (h k - mean h) = ⊤ := by
    by_contra hn
    have hnb : ∑ k, (h k - mean h) * (h k - mean h) ≠ ⊥ := fun e => by
      have h0 : (0 : EReal) ≤ ∑ k, (h k - mean h) * (h k - mean h) :=
        Finset.sum_nonneg fun k _ => by rw [sq k]; exact le_top
      rw [e] at h0
      exact absurd h0 (by simp)
    have hr : IsReal (∑ k, (h k - mean h) * (h k - mean h)) :=
      Classical.byContradiction fun hc => (infinite_of_not_real hc).elim hn hnb
    obtain ⟨r, hr⟩ := real_of_sum Finset.univ _ hr 0 (Finset.mem_univ 0)
    rw [sq 0] at hr
    exact absurd hr.symm (EReal.coe_ne_top r)
  unfold varEps
  rw [hs, w_512, w_eps, Ideal.div_coe (by norm_num), EReal.top_mul_coe_of_pos (by norm_num)]
  exact EReal.top_add_coe _

/-- The reference's layer norm of a row that isn't real is the shift. -/
theorem lnR_infinite {h : Fin 512 → EReal} (hh : ¬ ∀ k, IsReal (h k)) (g be : Fin 512 → EReal) : lnR h g be = be := by
  funext k
  unfold lnR
  rw [varEps_infinite hh, show Ideal.sqrt ⊤ = ⊤ from rfl]
  simp [Ideal.div]

/-- The kernel's layer norm of a row that isn't real is the shift. -/
theorem lnK_infinite {h : Fin 512 → EReal} (hh : ¬ ∀ k, IsReal (h k)) (g be : Fin 512 → EReal) : lnK h g be = be := by
  funext k
  unfold lnK
  rw [varEps_infinite hh, show Ideal.rsqrt ⊤ = 0 from rfl]
  simp

/-- The two layer norms agree on every row. -/
theorem lnK_eq (h g be : Fin 512 → EReal) : lnK h g be = lnR h g be := by
  by_cases hh : ∀ k, IsReal (h k)
  · obtain ⟨v, hv, e⟩ := varEps_pos hh
    funext k
    unfold lnK lnR
    rw [e, rsqrt_pos_coe hv, sqrt_nonneg_coe hv.le, Ideal.div_coe (Real.sqrt_pos.mpr hv).ne', one_div]
  · rw [lnK_infinite hh, lnR_infinite hh]

/-- The layer norm of any row with real scale and shift is real. -/
theorem lnR_real (h : Fin 512 → EReal) {g be : Fin 512 → EReal} (hg : ∀ k, IsReal (g k)) (hb : ∀ k, IsReal (be k))
    (k : Fin 512) : IsReal (lnR h g be k) := by
  by_cases hh : ∀ k, IsReal (h k)
  · obtain ⟨v, hv, e⟩ := varEps_pos hh
    unfold lnR
    rw [e, sqrt_nonneg_coe hv.le, Ideal.div_coe (Real.sqrt_pos.mpr hv).ne']
    exact ((((hh k).sub (mean_real hh)).mul (isReal_coe _)).mul (hg k)).add (hb k)
  · rw [lnR_infinite hh]
    exact hb k

/-- The auxiliary variable of the error function at a real. -/
theorem erfT_coe (z : ℝ) : erfT (z : EReal) = ((1 / (1 + ep * |z|) : ℝ) : EReal) := by
  have h0 : (0 : ℝ) ≤ ep := by norm_num [ep]
  have h1 : (1 + ep * |z|) ≠ 0 := by positivity
  unfold erfT
  rw [← EReal.coe_neg, coe_max, w_ep, ← EReal.coe_mul, ← EReal.coe_one, ← EReal.coe_add]
  exact div_coe_coe 1 h1

/-- The polynomial at `t` times the exponential, taken from one. -/
def erfPoly (t E : ℝ) : ℝ := 1 - ((((e5 * t + -e4) * t + e3) * t + -e2) * t + e1) * t * E

/-- The reference's error function at an absolute value. -/
theorem erfAbs_coe (z : ℝ) :
    erfAbs (z : EReal) = ((erfPoly (1 / (1 + ep * |z|)) (Real.exp (-(z * z))) : ℝ) : EReal) := by
  unfold erfAbs
  rw [erfT_coe, w_e1, w_e2, w_e3, w_e4, w_e5, ← EReal.coe_mul z z, ← EReal.coe_neg, Ideal.exp_coe, ← EReal.coe_one]
  simp only [← EReal.coe_mul, ← EReal.coe_sub, ← EReal.coe_add]
  congr 1
  unfold erfPoly
  ring

/-- The kernel's error function at a real: the sign times the polynomial. -/
theorem erfK_coe (z : ℝ) :
    erfK (z : EReal) = (if 0 < max (z : EReal) (-z) then (if (z : EReal) < 0 then w32 0xBF800000#32 else 1) else z)
      * ((erfPoly (1 / (1 + ep * |z|)) (Real.exp (-(z * z))) : ℝ) : EReal) := by
  unfold erfK
  rw [erfT_coe, w_e1, w_neg_e2, w_e3, w_neg_e4, w_e5]
  congr 1
  rw [← EReal.coe_neg, coe_max, ← EReal.coe_zero, ← EReal.coe_sub, ← EReal.coe_one]
  simp only [← EReal.coe_mul, ← EReal.coe_sub, ← EReal.coe_add, Ideal.exp_coe]
  congr 1
  unfold erfPoly
  rw [show (0 - max z (-z)) * max z (-z) = -(z * z) by
    rw [zero_sub, neg_mul, show max z (-z) = |z| from rfl, abs_mul_abs_self]]

/-- The two error functions agree at a nonzero real. -/
theorem erfK_eq {z : ℝ} (hz : z ≠ 0) : erfK (z : EReal) = erfR (z : EReal) := by
  rw [erfK_coe]
  unfold erfR
  rw [erfAbs_coe, ← EReal.coe_neg z, coe_max, ← EReal.coe_zero]
  have h : (0 : ℝ) < max z (-z) := abs_pos.mpr hz
  rw [if_pos (EReal.coe_lt_coe_iff.mpr h)]
  rcases lt_or_gt_of_ne hz with hn | hp
  · rw [if_pos (EReal.coe_lt_coe_iff.mpr hn), if_neg (by simpa using hn), w_neg_one, ← EReal.coe_mul, ← EReal.coe_neg]
    congr 1; ring
  · rw [if_neg (by simpa using hp.le), if_pos (by simpa using hp.le), one_mul]

/-- GELU over the two error functions agrees at a real. -/
theorem gelu_eq {x : EReal} (hx : IsReal x) : gelu erfK x = gelu erfR x := by
  obtain ⟨r, rfl⟩ := hx
  unfold gelu
  rcases eq_or_ne r 0 with rfl | h
  · simp
  · rw [w_rt, ← EReal.coe_mul, erfK_eq (mul_ne_zero h (by norm_num [rt]))]

/-- GELU of a real is real. -/
theorem gelu_real {x : EReal} (hx : IsReal x) : IsReal (gelu erfR x) := by
  obtain ⟨r, rfl⟩ := hx
  unfold gelu
  rw [w_rt, w_half, ← EReal.coe_mul r rt]
  refine ((isReal_coe _).mul (isReal_coe _)).mul (((EReal.coe_one ▸ isReal_coe 1 : IsReal 1)).add ?_)
  unfold erfR
  rw [erfAbs_coe]
  split
  · exact isReal_coe _
  · exact ⟨_, (EReal.coe_neg _).symm⟩

section Proj

variable (x : Fin 512 → EReal) (W1 : Fin 512 → Fin 512 → EReal) (b1 : Fin 512 → EReal) {g be : Fin 512 → EReal}
  (W2 : Fin 512 → Fin 512 → EReal) (b2 : Fin 512 → EReal)

/-- The two projections agree where the layer norm's scale and shift are real. -/
theorem proj_eq (hg : ∀ e, IsReal (g e)) (he : ∀ e, IsReal (be e)) :
    proj lnK erfK x W1 b1 g be W2 b2 = proj lnR erfR x W1 b1 g be W2 b2 := by
  unfold proj
  rw [lnK_eq]
  simp only [fun k => gelu_eq (lnR_real (dense x W1 b1) hg he k)]

variable {W2 b2}

/-- The projection of any row is real where the parameters from the layer norm on are. -/
theorem proj_real (hg : ∀ e, IsReal (g e)) (he : ∀ e, IsReal (be e)) (hW2 : ∀ d e, IsReal (W2 d e))
    (hb2 : ∀ e, IsReal (b2 e)) (e : Fin 512) : IsReal (proj lnR erfR x W1 b1 g be W2 b2 e) :=
  dense_real (fun k => gelu_real (lnR_real _ hg he k)) hW2 hb2 e

end Proj

/-- The product of two real rows. -/
theorem dot_coe {n : ℕ} (u v : Fin n → ℝ) :
    dot (fun d => (u d : EReal)) (fun d => (v d : EReal)) = ((∑ d, u d * v d : ℝ) : EReal) := by
  unfold dot
  rw [coe_sum]
  exact Finset.sum_congr rfl fun d _ => (EReal.coe_mul _ _).symm

/-- A real row's clamped norm is a positive real. -/
theorem norm12_pos (u : Fin 512 → ℝ) : ∃ n : ℝ, 0 < n ∧ norm12 (fun d => (u d : EReal)) = (n : EReal) := by
  refine ⟨max √(∑ d, u d * u d) tiny, lt_max_of_lt_right (by norm_num [tiny]), ?_⟩
  unfold norm12
  rw [dot_coe, sqrt_nonneg_coe (Finset.sum_nonneg fun d _ => mul_self_nonneg _), w_tiny, coe_max]

/-- The two cosine similarities agree on real rows, whatever the temperature. -/
theorem cosK_eq {q k : Fin 512 → EReal} (hq : ∀ d, IsReal (q d)) (hk : ∀ d, IsReal (k d)) (t : EReal) :
    cosK q k t = cosR q k t := by
  obtain ⟨u, rfl⟩ := lift hq
  obtain ⟨v, rfl⟩ := lift hk
  obtain ⟨m, hm, em⟩ := norm12_pos u
  obtain ⟨n, hn, en⟩ := norm12_pos v
  unfold cosK cosR
  rw [em, en, dot_coe, ← EReal.coe_one, div_coe_coe _ hm.ne', div_coe_coe _ hn.ne']
  simp only [div_coe_coe _ hm.ne', div_coe_coe _ hn.ne', ← EReal.coe_mul]
  rw [← coe_sum]
  rw [mul_comm (((1 / m : ℝ)) : EReal) t, ← mul_assoc, mul_right_comm, mul_right_comm _ t, ← EReal.coe_mul,
    mul_right_comm, ← EReal.coe_mul]
  refine congrArg (fun s : ℝ => (s : EReal) * t) ?_
  rw [Finset.sum_mul, Finset.sum_mul]
  exact Finset.sum_congr rfl fun d _ => by field_simp

/-- The two similarities by distance agree on real rows. -/
theorem eucK_eq {q k : Fin 512 → EReal} (hq : ∀ d, IsReal (q d)) (hk : ∀ d, IsReal (k d)) : eucK q k = eucR q k := by
  obtain ⟨u, rfl⟩ := lift hq
  obtain ⟨v, rfl⟩ := lift hk
  unfold eucK eucR
  rw [dot_coe, dot_coe, dot_coe, w_two]
  simp only [← EReal.coe_sub, ← EReal.coe_mul, ← EReal.coe_add]
  rw [← coe_sum, ← EReal.coe_zero, coe_max]
  have h : ∑ d, u d * u d + ∑ d, v d * v d - 2 * ∑ d, u d * v d = ∑ d, (u d - v d) * (u d - v d) := by
    rw [Finset.mul_sum, ← Finset.sum_add_distrib, ← Finset.sum_sub_distrib]
    exact Finset.sum_congr rfl fun d _ => by ring
  rw [h, max_eq_left (Finset.sum_nonneg fun d _ => mul_self_nonneg _)]

/-- The two attention weights agree: no entry need be finite. -/
theorem attK_eq (A : Fin 512 → EReal) (B : Fin 2048 → Fin 512 → EReal) (j : Fin 2048) : attK A B j = attR A B j := by
  have h8 : √(64 : ℝ) = 8 := by rw [show (64 : ℝ) = 8 * 8 by norm_num, Real.sqrt_mul_self (by norm_num)]
  have hs : ∀ h j', headDot A (B j') h * w32 0x3E000000#32
      = Ideal.div (headDot (B j') A h) (Ideal.sqrt (w32 0x42800000#32)) := fun h j' => by
    rw [w_64, sqrt_nonneg_coe (by norm_num), h8, Ideal.div_coe (by norm_num), w_eighth]
    unfold headDot
    simp only [mul_comm (B j' _)]
  unfold attK attR
  simp only [hs]
  rw [w_eight, Ideal.div_coe (by norm_num), w_eighth]

end Cert.Real

end
-- ==== Proof.Equation.lean ====
/- The equation: over real projection parameters, from the layer norm on, the two spellings of the answer agree. -/
module

public import proofs.«01_k».proof.Proof.Real

@[expose] public section

set_option maxRecDepth 16384

noncomputable section

namespace Cert.Proof.Equation

open Cert.Spec Cert.Real

/-- Where the projections' parameters from the layer norm on are real, the kernel's spelling of the answer is the
    reference's. Everything else may be infinite. -/
theorem answer_eq (x : Fin 64 → Fin 512 → EReal) (y : Fin 2048 → Fin 512 → EReal) (T : EReal)
    (W1 : Fin 512 → Fin 512 → EReal) (b1 : Fin 512 → EReal) {g be : Fin 512 → EReal}
    {W2 : Fin 512 → Fin 512 → EReal} {b2 : Fin 512 → EReal}
    (V1 : Fin 512 → Fin 512 → EReal) (c1 : Fin 512 → EReal) {h ce : Fin 512 → EReal}
    {V2 : Fin 512 → Fin 512 → EReal} {c2 : Fin 512 → EReal}
    (Wq : Fin 512 → Fin 512 → EReal) (bq : Fin 512 → EReal) (Wk : Fin 512 → Fin 512 → EReal) (bk : Fin 512 → EReal)
    (w : Fin 64 → Fin 3 → EReal) (b v : Fin 64 → EReal) (d : EReal) (i : Fin 64) (j : Fin 2048)
    (hg : ∀ e, IsReal (g e)) (hbe : ∀ e, IsReal (be e)) (hW2 : ∀ a e, IsReal (W2 a e)) (hb2 : ∀ e, IsReal (b2 e))
    (hh : ∀ e, IsReal (h e)) (hce : ∀ e, IsReal (ce e)) (hV2 : ∀ a e, IsReal (V2 a e)) (hc2 : ∀ e, IsReal (c2 e)) :
    answer lnK erfK cosK eucK attK x y T W1 b1 g be W2 b2 V1 c1 h ce V2 c2 Wq bq Wk bk w b v d i j
      = answer lnR erfR cosR eucR attR x y T W1 b1 g be W2 b2 V1 c1 h ce V2 c2 Wq bq Wk bk w b v d i j := by
  have hQ := proj_real (x i) W1 b1 hg hbe hW2 hb2
  have hK := proj_real (y j) V1 c1 hh hce hV2 hc2
  unfold answer
  simp only [proj_eq _ _ _ _ _ hg hbe, proj_eq _ _ _ _ _ hh hce]
  rw [cosK_eq hQ hK, eucK_eq hQ hK, attK_eq]

end Cert.Proof.Equation

end
-- ==== Proof.Finite.lean ====
/- What the precondition says of an array: an absolute value below infinity at every index is a real number there. -/
module

public import proofs.«01_k».proof.Proof.Real
public import proofs.«01_k».proof.Pre_finite

@[expose] public section

set_option maxRecDepth 16384

noncomputable section

namespace Cert.Proof.Finite

open Idealize.ShloMosaic Cert.Real Cert.Pre_finite

/-- The word of infinity. -/
theorem w_inf : Ideal.ofBits .f32 0x7F800000#32 = ⊤ := by simp [Ideal.ofBits, Ideal.ieee]

/-- A number whose absolute value is below infinity is real. -/
theorem real_of_abs {x : EReal} (h : max x (-x) < ⊤) : IsReal x := by
  have h1 := (max_lt_iff.mp h).1
  have h2 := (max_lt_iff.mp h).2
  induction x with
  | bot => simp at h2
  | top => simp at h1
  | coe r => exact isReal_coe r

/-- An array whose comparison with infinity is all ones holds real numbers. -/
theorem real_of_ones {s : Shape} {x : FVec Ideal s .f32} {hb : S_.BroadcastsInDim s ![]}
    (h : cmpf .olt (Host.absf x) (broadcastInDim s ![] hb (constant (F := Ideal) S_ .f32 0x7F800000#32)) = fun _ => 1#1)
    (i : s.Idx) : IsReal (x i) := by
  have e : BitVec.ofBool (decide (max (x i) (-(x i)) < Ideal.ofBits .f32 0x7F800000#32)) = 1#1 := congrFun h i
  rw [w_inf] at e
  refine real_of_abs (Classical.byContradiction fun hn => ?_)
  rw [decide_eq_false hn] at e
  exact absurd e (by decide)

end Cert.Proof.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.KArray
public import proofs.«01_k».proof.Proof.RAnswer
public import proofs.«01_k».proof.Proof.Equation
public import proofs.«01_k».proof.Proof.Finite
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

/-- The kernel as printed ends without fault, its arguments unchanged and its counters at zero. -/
theorem frame_kernel : quiescent_Kernel (hKernel := Cert.Kernel.Gen.facts) := fun m ρ _ => Cert.Kernel.Gen.frame m ρ

/-- So does the kernel over the extended reals. -/
theorem frame_ideal : quiescent_KernelIdeal (hKernelIdeal := Cert.KernelIdeal.Gen.facts) :=
  fun m ρ _ => Cert.KernelIdeal.Gen.frame m ρ

/-- The reference ends without fault, its arguments unchanged and its counters at zero. -/
theorem frame_reference : quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The sign rule's two sites, one in each projection's error function. -/
theorem preserves : preserves_Kernel_KernelIdeal :=
  ⟨IdealRules.sign_bit.statement Cert.KernelIdeal.S64x512 .f32, IdealRules.sign_bit.statement Cert.KernelIdeal.S2048x512 .f32⟩

/-- Under the precondition and from memories that agree on the arguments, the two spellings of the answer agree. -/
theorem same_answer (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Pre_KernelIdeal_finite (hPre_finite := Cert.Pre_finite.Gen.facts) m) (c : Dev Cert.KernelIdeal.nD)
    (hagree : launchContents m' c (Proc.devRef .tc Cert.ReferenceIdeal.main_arg0) = m ((c.tc : Thread Cert.KernelIdeal.nD Cert.KernelIdeal.τ).loc Cert.KernelIdeal.main_arg0)
      ∧ launchContents m' c (Proc.devRef .tc Cert.ReferenceIdeal.main_arg1) = m ((c.tc : Thread Cert.KernelIdeal.nD Cert.KernelIdeal.τ).loc Cert.KernelIdeal.main_arg1)
      ∧ launchContents m' c (Proc.devRef .tc Cert.ReferenceIdeal.main_arg2) = m ((c.tc : Thread Cert.KernelIdeal.nD Cert.KernelIdeal.τ).loc Cert.KernelIdeal.main_arg2)
      ∧ launchContents m' c (Proc.devRef .tc Cert.ReferenceIdeal.main_arg3) = m ((c.tc : Thread Cert.KernelIdeal.nD Cert.KernelIdeal.τ).loc Cert.KernelIdeal.main_arg3)
      ∧ launchContents m' c (Proc.devRef .tc Cert.ReferenceIdeal.main_arg4) = m ((c.tc : Thread Cert.KernelIdeal.nD Cert.KernelIdeal.τ).loc Cert.KernelIdeal.main_arg4)
      ∧ launchContents m' c (Proc.devRef .tc Cert.ReferenceIdeal.main_arg5) = m ((c.tc : Thread Cert.KernelIdeal.nD Cert.KernelIdeal.τ).loc Cert.KernelIdeal.main_arg5)
      ∧ launchContents m' c (Proc.devRef .tc Cert.ReferenceIdeal.main_arg6) = m ((c.tc : Thread Cert.KernelIdeal.nD Cert.KernelIdeal.τ).loc Cert.KernelIdeal.main_arg6)
      ∧ launchContents m' c (Proc.devRef .tc Cert.ReferenceIdeal.main_arg7) = m ((c.tc : Thread Cert.KernelIdeal.nD Cert.KernelIdeal.τ).loc Cert.KernelIdeal.main_arg7)
      ∧ launchContents m' c (Proc.devRef .tc Cert.ReferenceIdeal.main_arg8) = m ((c.tc : Thread Cert.KernelIdeal.nD Cert.KernelIdeal.τ).loc Cert.KernelIdeal.main_arg8)
      ∧ launchContents m' c (Proc.devRef .tc Cert.ReferenceIdeal.main_arg9) = m ((c.tc : Thread Cert.KernelIdeal.nD Cert.KernelIdeal.τ).loc Cert.KernelIdeal.main_arg9)
      ∧ launchContents m' c (Proc.devRef .tc Cert.ReferenceIdeal.main_arg10) = m ((c.tc : Thread Cert.KernelIdeal.nD Cert.KernelIdeal.τ).loc Cert.KernelIdeal.main_arg10)
      ∧ launchContents m' c (Proc.devRef .tc Cert.ReferenceIdeal.main_arg11) = m ((c.tc : Thread Cert.KernelIdeal.nD Cert.KernelIdeal.τ).loc Cert.KernelIdeal.main_arg11)
      ∧ launchContents m' c (Proc.devRef .tc Cert.ReferenceIdeal.main_arg12) = m ((c.tc : Thread Cert.KernelIdeal.nD Cert.KernelIdeal.τ).loc Cert.KernelIdeal.main_arg12)
      ∧ launchContents m' c (Proc.devRef .tc Cert.ReferenceIdeal.main_arg13) = m ((c.tc : Thread Cert.KernelIdeal.nD Cert.KernelIdeal.τ).loc Cert.KernelIdeal.main_arg13)
      ∧ launchContents m' c (Proc.devRef .tc Cert.ReferenceIdeal.main_arg14) = m ((c.tc : Thread Cert.KernelIdeal.nD Cert.KernelIdeal.τ).loc Cert.KernelIdeal.main_arg14)
      ∧ launchContents m' c (Proc.devRef .tc Cert.ReferenceIdeal.main_arg15) = m ((c.tc : Thread Cert.KernelIdeal.nD Cert.KernelIdeal.τ).loc Cert.KernelIdeal.main_arg15)
      ∧ launchContents m' c (Proc.devRef .tc Cert.ReferenceIdeal.main_arg16) = m ((c.tc : Thread Cert.KernelIdeal.nD Cert.KernelIdeal.τ).loc Cert.KernelIdeal.main_arg16)
      ∧ launchContents m' c (Proc.devRef .tc Cert.ReferenceIdeal.main_arg17) = m ((c.tc : Thread Cert.KernelIdeal.nD Cert.KernelIdeal.τ).loc Cert.KernelIdeal.main_arg17)
      ∧ launchContents m' c (Proc.devRef .tc Cert.ReferenceIdeal.main_arg18) = m ((c.tc : Thread Cert.KernelIdeal.nD Cert.KernelIdeal.τ).loc Cert.KernelIdeal.main_arg18)
      ∧ launchContents m' c (Proc.devRef .tc Cert.ReferenceIdeal.main_arg19) = m ((c.tc : Thread Cert.KernelIdeal.nD Cert.KernelIdeal.τ).loc Cert.KernelIdeal.main_arg19)
      ∧ launchContents m' c (Proc.devRef .tc Cert.ReferenceIdeal.main_arg20) = m ((c.tc : Thread Cert.KernelIdeal.nD Cert.KernelIdeal.τ).loc Cert.KernelIdeal.main_arg20)
      ∧ launchContents m' c (Proc.devRef .tc Cert.ReferenceIdeal.main_arg21) = m ((c.tc : Thread Cert.KernelIdeal.nD Cert.KernelIdeal.τ).loc Cert.KernelIdeal.main_arg21)
      ∧ launchContents m' c (Proc.devRef .tc Cert.ReferenceIdeal.main_arg22) = m ((c.tc : Thread Cert.KernelIdeal.nD Cert.KernelIdeal.τ).loc Cert.KernelIdeal.main_arg22))
    (i : Fin 64) (j : Fin 2048) :
    RAnswer.answerR (launchContents m' c) i j = KArray.answerK m c i j := by
  obtain ⟨p5, p6, p7, p8, p11, p12, p13, p14⟩ := hpre c
  obtain ⟨h0, h1, h2, h3, h4, h5, h6, h7, h8, h9, h10, h11, h12, h13, h14, h15, h16, h17, h18, h19, h20, h21, h22⟩ := hagree
  unfold RAnswer.answerR
  rw [h0, h1, h2, h3, h4, h5, h6, h7, h8, h9, h10, h11, h12, h13, h14, h15, h16, h17, h18, h19, h20, h21, h22]
  exact (Equation.answer_eq _ _ _ _ _ _ _ _ _ _ _ _ _ _ _ i j
    (fun e => Finite.real_of_ones p5 (ix1 e))
    (fun e => Finite.real_of_ones p6 (ix1 e))
    (fun a e => Finite.real_of_ones p7 (ix2 e a))
    (fun e => Finite.real_of_ones p8 (ix1 e))
    (fun e => Finite.real_of_ones p11 (ix1 e))
    (fun e => Finite.real_of_ones p12 (ix1 e))
    (fun a e => Finite.real_of_ones p13 (ix2 e a))
    (fun e => Finite.real_of_ones p14 (ix1 e))).symm

/-- Kernel and reference compute the same function over the extended reals, where the projections' parameters from the
    layer norm on are finite. -/
theorem algebraic : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨fun c => fun y => KArray.answerK m c (y 0) (y 1), ?_, ?_⟩
  · exact (θ_run Cert.KernelIdeal.defs _ _).mono (fun r h c => ⟨(h c).1.trans (KArray.final m c), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    refine (Cert.ReferenceIdeal.Value.val5_main_v238 (launchContents m' c)).symm.trans ?_
    rw [RAnswer.result]
    exact funext fun y => same_answer m m' hpre c (hagree c) (y 0) (y 1)

/-- The certificate's claim. -/
theorem claim : Cert.Claim :=
  ⟨Cert.Kernel.Gen.facts, Cert.KernelIdeal.Gen.facts, Cert.ReferenceIdeal.Gen.facts, Cert.Pre_finite.Gen.facts,
    frame_kernel, frame_ideal, fun m ρ _ => frame_ideal m ρ trivial, frame_reference,
    fun m ρ _ => frame_reference m ρ trivial, preserves, algebraic⟩

end Cert.Proof

end
